-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_P" .f32 0x3BA72F05#32 ((1 / 196 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512x768 : Shape := ⟨3, ![64, 512, 768]⟩
abbrev S64x196x768 : Shape := ⟨3, ![64, 196, 768]⟩
abbrev S64x512x4 : Shape := ⟨3, ![64, 512, 4]⟩
abbrev S64x512 : Shape := ⟨2, ![64, 512]⟩
abbrev S_ : Shape := ⟨0, ![]⟩

class Facts : Prop where
  bcast_S_S64x512x768 : S_.BroadcastsInDim S64x512x768 (![] : Fin 0 → Fin S64x512x768.rank)
  bcast_S_S64x196x768 : S_.BroadcastsInDim S64x196x768 (![] : Fin 0 → Fin S64x196x768.rank)

variable [Facts]

def fn {F : FTy → Type} [FloatOps F] (main_arg0 : FVec F S64x512x768 .f32) (main_arg1 : FVec F S64x196x768 .f32) (main_arg2 : IVec S64x512x4 32) (main_arg3 : IVec S64x512 32) : IVec S64x512x768 1 × IVec S64x196x768 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_v3 : FVec F S64x196x768 .f32 := Host.absf main_arg1
  let main_cst_0 : FVec F S_ .f32 := constant S_ .f32 0x7F800000#32
  let main_v4 : FVec F S64x196x768 .f32 := broadcastInDim S64x196x768 ![] bcast_S_S64x196x768 main_cst_0
  let main_v5 : IVec S64x196x768 1 := cmpf .olt main_v3 main_v4
  (main_v2, main_v5)
-- ==== Kernel.lean ====
abbrev S64x512x768 : Shape := ⟨3, ![64, 512, 768]⟩
abbrev S64x196x768 : Shape := ⟨3, ![64, 196, 768]⟩
abbrev S64x512x4 : Shape := ⟨3, ![64, 512, 4]⟩
abbrev S64x512 : Shape := ⟨2, ![64, 512]⟩
abbrev S64x4x512 : Shape := ⟨3, ![64, 4, 512]⟩
abbrev S64x1x512 : Shape := ⟨3, ![64, 1, 512]⟩
abbrev S32768x768 : Shape := ⟨2, ![32768, 768]⟩
abbrev S1x1 : Shape := ⟨2, ![1, 1]⟩
abbrev S_ : Shape := ⟨0, ![]⟩
abbrev S8x4x512 : Shape := ⟨3, ![8, 4, 512]⟩
abbrev S8x1x512 : Shape := ⟨3, ![8, 1, 512]⟩
abbrev S4096x768 : Shape := ⟨2, ![4096, 768]⟩
abbrev S8x196x768 : Shape := ⟨3, ![8, 196, 768]⟩
abbrev S1x4x512 : Shape := ⟨3, ![1, 4, 512]⟩
abbrev S4x512 : Shape := ⟨2, ![4, 512]⟩
abbrev S1x512 : Shape := ⟨2, ![1, 512]⟩
abbrev S1x1x512 : Shape := ⟨3, ![1, 1, 512]⟩
abbrev S196x512 : Shape := ⟨2, ![196, 512]⟩
abbrev S512x768 : Shape := ⟨2, ![512, 768]⟩
abbrev S196x768 : Shape := ⟨2, ![196, 768]⟩
abbrev S196 : Shape := ⟨1, ![196]⟩
abbrev S196x1 : Shape := ⟨2, ![196, 1]⟩
abbrev S1x196x768 : Shape := ⟨3, ![1, 196, 768]⟩
abbrev S196x196 : Shape := ⟨2, ![196, 196]⟩
abbrev S1x196 : Shape := ⟨2, ![1, 196]⟩
abbrev S1x196x196 : Shape := ⟨3, ![1, 196, 196]⟩
abbrev S1 : Shape := ⟨1, ![1]⟩
abbrev S1x1x1 : Shape := ⟨3, ![1, 1, 1]⟩
abbrev S1x196x1 : Shape := ⟨3, ![1, 196, 1]⟩
abbrev S1x1x196 : Shape := ⟨3, ![1, 1, 196]⟩

abbrev nBuf : Space → Nat
  | .hbm => 12
  | .vmem => 9
  | .smem => 0
  | _ => 0

abbrev bufTy : (tb : Table) → Fin (tcTables nBuf tb) → BufTy
  | .hbm, ⟨0, _⟩ => ⟨S64x512x768, .f32⟩
  | .hbm, ⟨1, _⟩ => ⟨S64x196x768, .f32⟩
  | .hbm, ⟨2, _⟩ => ⟨S64x512x4, .i32⟩
  | .hbm, ⟨3, _⟩ => ⟨S64x512, .i32⟩
  | .hbm, ⟨4, _⟩ => ⟨S64x4x512, .i32⟩
  | .hbm, ⟨5, _⟩ => ⟨S64x1x512, .i32⟩
  | .hbm, ⟨6, _⟩ => ⟨S32768x768, .f32⟩
  | .hbm, ⟨7, _⟩ => ⟨S64x196x768, .bf16⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x4x512, .i32⟩
  | .local _ .vmem, ⟨1, _⟩ => ⟨S8x4x512, .i32⟩
  | .local _ .vmem, ⟨2, _⟩ => ⟨S8x1x512, .i32⟩
  | .local _ .vmem, ⟨3, _⟩ => ⟨S8x1x512, .i32⟩
  | .local _ .vmem, ⟨4, _⟩ => ⟨S4096x768, .f32⟩
  | .local _ .vmem, ⟨5, _⟩ => ⟨S4096x768, .f32⟩
  | .local _ .vmem, ⟨6, _⟩ => ⟨S8x196x768, .bf16⟩
  | .local _ .vmem, ⟨7, _⟩ => ⟨S8x196x768, .bf16⟩
  | .local _ .vmem, ⟨8, _⟩ => ⟨S1x1, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_cst : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x196x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_P" => some ((1 / 196 : ℝ) : EReal)
  | _ => none
-- ==== ReferenceIdeal.lean ====
abbrev S64x512x768 : Shape := ⟨3, ![64, 512, 768]⟩
abbrev S64x196x768 : Shape := ⟨3, ![64, 196, 768]⟩
abbrev S64x512x4 : Shape := ⟨3, ![64, 512, 4]⟩
abbrev S64x512 : Shape := ⟨2, ![64, 512]⟩
abbrev S_ : Shape := ⟨0, ![]⟩
abbrev S64x512x1 : Shape := ⟨3, ![64, 512, 1]⟩
abbrev S64 : Shape := ⟨1, ![64]⟩
abbrev S64x1 : Shape := ⟨2, ![64, 1]⟩
abbrev S64x197x768 : Shape := ⟨3, ![64, 197, 768]⟩
abbrev S64x512x2 : Shape := ⟨3, ![64, 512, 2]⟩
abbrev S64x197 : Shape := ⟨2, ![64, 197]⟩
abbrev S64x196 : Shape := ⟨2, ![64, 196]⟩
abbrev S64x196x1 : Shape := ⟨3, ![64, 196, 1]⟩
abbrev S64x196x196 : Shape := ⟨3, ![64, 196, 196]⟩
abbrev S196 : Shape := ⟨1, ![196]⟩
abbrev S1x196x1 : Shape := ⟨3, ![1, 196, 1]⟩
abbrev S196x1x1 : Shape := ⟨3, ![196, 1, 1]⟩
abbrev S1 : Shape := ⟨1, ![1]⟩
abbrev S1x1x1 : Shape := ⟨3, ![1, 1, 1]⟩
abbrev S196x1 : Shape := ⟨2, ![196, 1]⟩

abbrev nBuf : Space → Nat
  | .hbm => 204
  | .vmem => 0
  | .smem => 0
  | _ => 0

abbrev hbmTy0_0 (i : Nat) : BufTy := match i % 128 with
  | 0 => ⟨S64x512x768, .f32⟩
  | 1 => ⟨S64x196x768, .f32⟩
  | 2 => ⟨S64x512x4, .i32⟩
  | 3 => ⟨S64x512, .i32⟩
  | 4 => ⟨S_, .i32⟩
  | 5 => ⟨S_, .i32⟩
  | 6 => ⟨S64x512x4, .i32⟩
  | 7 => ⟨S64x512x4, .i32⟩
  | 8 => ⟨S64x512x4, .i32⟩
  | 9 => ⟨S_, .i32⟩
  | 10 => ⟨S64x512x4, .i32⟩
  | 11 => ⟨S64x512x4, .i1⟩
  | 12 => ⟨S64x512x4, .i32⟩
  | 13 => ⟨S64x512x4, .i32⟩
  | 14 => ⟨S_, .i32⟩
  | 15 => ⟨S64x512x4, .i32⟩
  | 16 => ⟨S64x512x4, .i1⟩
  | 17 => ⟨S64x512x4, .i1⟩
  | 18 => ⟨S_, .i32⟩
  | 19 => ⟨S64x512x4, .i32⟩
  | 20 => ⟨S64x512x4, .i32⟩
  | 21 => ⟨S64x512x4, .i32⟩
  | 22 => ⟨S64x512x1, .i32⟩
  | 23 => ⟨S64x512, .i32⟩
  | 24 => ⟨S64x512x1, .i32⟩
  | 25 => ⟨S64x512, .i32⟩
  | 26 => ⟨S64x512x1, .i32⟩
  | 27 => ⟨S64x512, .i32⟩
  | 28 => ⟨S64x512x1, .i32⟩
  | 29 => ⟨S64x512, .i32⟩
  | 30 => ⟨S64x512, .i1⟩
  | 31 => ⟨S64x512, .i1⟩
  | 32 => ⟨S64x512, .i1⟩
  | 33 => ⟨S_, .i32⟩
  | 34 => ⟨S64x512, .i32⟩
  | 35 => ⟨S64x512, .i32⟩
  | 36 => ⟨S64x512, .i32⟩
  | 37 => ⟨S_, .i32⟩
  | 38 => ⟨S_, .i32⟩
  | 39 => ⟨S64x512, .i32⟩
  | 40 => ⟨S64x512, .i32⟩
  | 41 => ⟨S_, .i32⟩
  | 42 => ⟨S64x512, .i32⟩
  | 43 => ⟨S64x512, .i1⟩
  | 44 => ⟨S64x512, .i1⟩
  | 45 => ⟨S_, .i32⟩
  | 46 => ⟨S_, .i32⟩
  | 47 => ⟨S64x512, .i32⟩
  | 48 => ⟨S64x512, .i32⟩
  | 49 => ⟨S_, .i32⟩
  | 50 => ⟨S64x512, .i32⟩
  | 51 => ⟨S64x512, .i1⟩
  | 52 => ⟨S_, .i32⟩
  | 53 => ⟨S_, .i32⟩
  | 54 => ⟨S64x512, .i32⟩
  | 55 => ⟨S64x512, .i32⟩
  | 56 => ⟨S64, .i32⟩
  | 57 => ⟨S64x1, .i32⟩
  | 58 => ⟨S_, .f32⟩
  | 59 => ⟨S64x197x768, .f32⟩
  | 60 => ⟨S_, .i32⟩
  | 61 => ⟨S64x1, .i32⟩
  | 62 => ⟨S64x1, .i1⟩
  | 63 => ⟨S_, .i32⟩
  | 64 => ⟨S64x1, .i32⟩
  | 65 => ⟨S64x1, .i32⟩
  | 66 => ⟨S64x1, .i32⟩
  | 67 => ⟨S_, .i32⟩
  | 68 => ⟨S64x512, .i32⟩
  | 69 => ⟨S64x512, .i1⟩
  | 70 => ⟨S_, .i32⟩
  | 71 => ⟨S64x512, .i32⟩
  | 72 => ⟨S64x512, .i32⟩
  | 73 => ⟨S64x512, .i32⟩
  | 74 => ⟨S64x512, .i32⟩
  | 75 => ⟨S64x512x1, .i32⟩
  | 76 => ⟨S64x512x1, .i32⟩
  | 77 => ⟨S64x512x2, .i32⟩
  | 78 => ⟨S64x197x768, .f32⟩
  | 79 => ⟨S_, .f32⟩
  | 80 => ⟨S64x197, .f32⟩
  | 81 => ⟨S_, .i32⟩
  | 82 => ⟨S64x1, .i32⟩
  | 83 => ⟨S64x1, .i1⟩
  | 84 => ⟨S_, .i32⟩
  | 85 => ⟨S64x1, .i32⟩
  | 86 => ⟨S64x1, .i32⟩
  | 87 => ⟨S64x1, .i32⟩
  | 88 => ⟨S_, .i32⟩
  | 89 => ⟨S64x512, .i32⟩
  | 90 => ⟨S64x512, .i1⟩
  | 91 => ⟨S_, .i32⟩
  | 92 => ⟨S64x512, .i32⟩
  | 93 => ⟨S64x512, .i32⟩
  | 94 => ⟨S64x512, .i32⟩
  | 95 => ⟨S64x512, .i32⟩
  | 96 => ⟨S64x512x1, .i32⟩
  | 97 => ⟨S64x512x1, .i32⟩
  | 98 => ⟨S64x512x2, .i32⟩
  | 99 => ⟨S_, .f32⟩
  | 100 => ⟨S64x512, .f32⟩
  | 101 => ⟨S64x197, .f32⟩
  | 102 => ⟨S64x196x768, .f32⟩
  | 103 => ⟨S64x196, .f32⟩
  | 104 => ⟨S64x196x1, .f32⟩
  | 105 => ⟨S_, .f32⟩
  | 106 => ⟨S64x196x1, .f32⟩
  | 107 => ⟨S64x196x1, .f32⟩
  | 108 => ⟨S64x196x768, .f32⟩
  | 109 => ⟨S64x196x768, .f32⟩
  | 110 => ⟨S64x196x196, .f32⟩
  | 111 => ⟨S64x196x196, .f32⟩
  | 112 => ⟨S196, .i32⟩
  | 113 => ⟨S_, .f32⟩
  | 114 => ⟨S64x196, .f32⟩
  | 115 => ⟨S_, .f32⟩
  | 116 => ⟨S64x196, .f32⟩
  | 117 => ⟨S64x196, .f32⟩
  | 118 => ⟨S64x196x1, .f32⟩
  | 119 => ⟨S64x196x196, .f32⟩
  | 120 => ⟨S64x196x196, .f32⟩
  | 121 => ⟨S64x196x196, .f32⟩
  | 122 => ⟨S_, .f32⟩
  | 123 => ⟨S64x196, .f32⟩
  | 124 => ⟨S64x196x1, .f32⟩
  | 125 => ⟨S64x196x1, .f32⟩
  | 126 => ⟨S64x196x196, .f32⟩
  | 127 => ⟨S64x196x196, .f32⟩
  | _ => ⟨S64x512x768, .f32⟩

abbrev hbmTy0_1 (i : Nat) : BufTy := match i % 128 with
  | 0 => ⟨S1x196x1, .i32⟩
  | 1 => ⟨S_, .i32⟩
  | 2 => ⟨S1x196x1, .i32⟩
  | 3 => ⟨S1x196x1, .i1⟩
  | 4 => ⟨S_, .i32⟩
  | 5 => ⟨S1x196x1, .i32⟩
  | 6 => ⟨S1x196x1, .i32⟩
  | 7 => ⟨S1x196x1, .i32⟩
  | 8 => ⟨S196x1x1, .i32⟩
  | 9 => ⟨S1, .i32⟩
  | 10 => ⟨S_, .i32⟩
  | 11 => ⟨S196x1x1, .i32⟩
  | 12 => ⟨S196x1x1, .i1⟩
  | 13 => ⟨S1x1x1, .i32⟩
  | 14 => ⟨S196x1x1, .i32⟩
  | 15 => ⟨S196x1x1, .i1⟩
  | 16 => ⟨S196x1x1, .i1⟩
  | 17 => ⟨S_, .i1⟩
  | 18 => ⟨S196x1, .i1⟩
  | 19 => ⟨S64x196x1, .f32⟩
  | 20 => ⟨S64x196x1, .i1⟩
  | 21 => ⟨S_, .f32⟩
  | 22 => ⟨S64x196x1, .f32⟩
  | 23 => ⟨S64x196x1, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S64x196, .f32⟩
  | 31 => ⟨S_, .f32⟩
  | 32 => ⟨S64x196, .f32⟩
  | 33 => ⟨S64x196, .f32⟩
  | 34 => ⟨S64x196x1, .f32⟩
  | 35 => ⟨S64x196x196, .f32⟩
  | 36 => ⟨S64x196x196, .f32⟩
  | 37 => ⟨S64x196x196, .f32⟩
  | 38 => ⟨S_, .f32⟩
  | 39 => ⟨S64x196, .f32⟩
  | 40 => ⟨S64x196x1, .f32⟩
  | 41 => ⟨S64x196x1, .f32⟩
  | 42 => ⟨S64x196x196, .f32⟩
  | 43 => ⟨S64x196x196, .f32⟩
  | 44 => ⟨S1x196x1, .i32⟩
  | 45 => ⟨S_, .i32⟩
  | 46 => ⟨S1x196x1, .i32⟩
  | 47 => ⟨S1x196x1, .i1⟩
  | 48 => ⟨S_, .i32⟩
  | 49 => ⟨S1x196x1, .i32⟩
  | 50 => ⟨S1x196x1, .i32⟩
  | 51 => ⟨S1x196x1, .i32⟩
  | 52 => ⟨S196x1x1, .i32⟩
  | 53 => ⟨S1, .i32⟩
  | 54 => ⟨S_, .i32⟩
  | 55 => ⟨S196x1x1, .i32⟩
  | 56 => ⟨S196x1x1, .i1⟩
  | 57 => ⟨S1x1x1, .i32⟩
  | 58 => ⟨S196x1x1, .i32⟩
  | 59 => ⟨S196x1x1, .i1⟩
  | 60 => ⟨S196x1x1, .i1⟩
  | 61 => ⟨S_, .i1⟩
  | 62 => ⟨S196x1, .i1⟩
  | 63 => ⟨S64x196x1, .f32⟩
  | 64 => ⟨S64x196x1, .i1⟩
  | 65 => ⟨S_, .f32⟩
  | 66 => ⟨S64x196x1, .f32⟩
  | 67 => ⟨S64x196x1, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | _ => ⟨S64x512x768, .f32⟩

abbrev hbmTy (i : Nat) : BufTy := match i / 128 with
  | 0 => hbmTy0_0 i
  | 1 => hbmTy0_1 i
  | _ => ⟨S64x512x768, .f32⟩

abbrev bufTy : (tb : Table) → Fin (tcTables nBuf tb) → BufTy
  | .hbm, ⟨i, _⟩ => hbmTy i
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_call2_v0 : Ref sig .tc := ⟨.hbm, 46, rfl⟩
abbrev main_call2_v1 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_call3_v0 : Ref sig .tc := ⟨.hbm, 53, rfl⟩
abbrev main_call3_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_8 : Ref sig .tc := ⟨.hbm, 67, rfl⟩
abbrev main_v31 : Ref sig .tc := ⟨.hbm, 68, rfl⟩
abbrev main_v32 : Ref sig .tc := ⟨.hbm, 69, rfl⟩
abbrev main_c_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_10 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_c_12 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_13 : Ref sig .tc := ⟨.hbm, 88, rfl⟩
abbrev main_v47 : Ref sig .tc := ⟨.hbm, 89, rfl⟩
abbrev main_v48 : Ref sig .tc := ⟨.hbm, 90, rfl⟩
abbrev main_c_14 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_15 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_16 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_call4_cst : Ref sig .tc := ⟨.hbm, 113, rfl⟩
abbrev main_call4_v0 : Ref sig .tc := ⟨.hbm, 114, rfl⟩
abbrev main_call4_cst_0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_cst_1 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_v68 : Ref sig .tc := ⟨.hbm, 127, rfl⟩
abbrev main_v69 : Ref sig .tc := ⟨.hbm, 128, rfl⟩
abbrev main_call5_c : Ref sig .tc := ⟨.hbm, 129, rfl⟩
abbrev main_call5_v0 : Ref sig .tc := ⟨.hbm, 130, rfl⟩
abbrev main_call5_v1 : Ref sig .tc := ⟨.hbm, 131, rfl⟩
abbrev main_call5_c_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_c_1 : Ref sig .tc := ⟨.hbm, 137, rfl⟩
abbrev main_call5_c_2 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_3 : Ref sig .tc := ⟨.hbm, 145, rfl⟩
abbrev main_call5_v12 : Ref sig .tc := ⟨.hbm, 146, rfl⟩
abbrev main_call5_v13 : Ref sig .tc := ⟨.hbm, 147, rfl⟩
abbrev main_call5_v14 : Ref sig .tc := ⟨.hbm, 148, rfl⟩
abbrev main_call5_cst : Ref sig .tc := ⟨.hbm, 149, rfl⟩
abbrev main_call5_v15 : Ref sig .tc := ⟨.hbm, 150, rfl⟩
abbrev main_v70 : Ref sig .tc := ⟨.hbm, 151, rfl⟩
abbrev main_cst_17 : Ref sig .tc := ⟨.hbm, 152, rfl⟩
abbrev main_v71 : Ref sig .tc := ⟨.hbm, 153, rfl⟩
abbrev main_cst_18 : Ref sig .tc := ⟨.hbm, 154, rfl⟩
abbrev main_v72 : Ref sig .tc := ⟨.hbm, 155, rfl⟩
abbrev main_v73 : Ref sig .tc := ⟨.hbm, 156, rfl⟩
abbrev main_call6_cst : Ref sig .tc := ⟨.hbm, 157, rfl⟩
abbrev main_call6_v0 : Ref sig .tc := ⟨.hbm, 158, rfl⟩
abbrev main_call6_cst_0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_v6 : Ref sig .tc := ⟨.hbm, 165, rfl⟩
abbrev main_call6_cst_1 : Ref sig .tc := ⟨.hbm, 166, rfl⟩
abbrev main_call6_v7 : Ref sig .tc := ⟨.hbm, 167, rfl⟩
abbrev main_call6_v8 : Ref sig .tc := ⟨.hbm, 168, rfl⟩
abbrev main_call6_v9 : Ref sig .tc := ⟨.hbm, 169, rfl⟩
abbrev main_call6_v10 : Ref sig .tc := ⟨.hbm, 170, rfl⟩
abbrev main_v74 : Ref sig .tc := ⟨.hbm, 171, rfl⟩
abbrev main_v75 : Ref sig .tc := ⟨.hbm, 172, rfl⟩
abbrev main_call7_c : Ref sig .tc := ⟨.hbm, 173, rfl⟩
abbrev main_call7_v0 : Ref sig .tc := ⟨.hbm, 174, rfl⟩
abbrev main_call7_v1 : Ref sig .tc := ⟨.hbm, 175, rfl⟩
abbrev main_call7_c_0 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_call7_v5 : Ref sig .tc := ⟨.hbm, 180, rfl⟩
abbrev main_call7_c_1 : Ref sig .tc := ⟨.hbm, 181, rfl⟩
abbrev main_call7_c_2 : Ref sig .tc := ⟨.hbm, 182, rfl⟩
abbrev main_call7_v6 : Ref sig .tc := ⟨.hbm, 183, rfl⟩
abbrev main_call7_v7 : Ref sig .tc := ⟨.hbm, 184, rfl⟩
abbrev main_call7_v8 : Ref sig .tc := ⟨.hbm, 185, rfl⟩
abbrev main_call7_v9 : Ref sig .tc := ⟨.hbm, 186, rfl⟩
abbrev main_call7_v10 : Ref sig .tc := ⟨.hbm, 187, rfl⟩
abbrev main_call7_v11 : Ref sig .tc := ⟨.hbm, 188, rfl⟩
abbrev main_call7_c_3 : Ref sig .tc := ⟨.hbm, 189, rfl⟩
abbrev main_call7_v12 : Ref sig .tc := ⟨.hbm, 190, rfl⟩
abbrev main_call7_v13 : Ref sig .tc := ⟨.hbm, 191, rfl⟩
abbrev main_call7_v14 : Ref sig .tc := ⟨.hbm, 192, rfl⟩
abbrev main_call7_cst : Ref sig .tc := ⟨.hbm, 193, rfl⟩
abbrev main_call7_v15 : Ref sig .tc := ⟨.hbm, 194, rfl⟩
abbrev main_v76 : Ref sig .tc := ⟨.hbm, 195, rfl⟩
abbrev main_cst_19 : Ref sig .tc := ⟨.hbm, 196, rfl⟩
abbrev main_v77 : Ref sig .tc := ⟨.hbm, 197, rfl⟩
abbrev main_cst_20 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_cst_21 : Ref sig .tc := ⟨.hbm, 202, rfl⟩
abbrev main_v81 : Ref sig .tc := ⟨.hbm, 203, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

/-- The box rows, the mask row, the text rows and the image rows of sample `k` in one grid point's blocks. -/
def boxAt (x : Vec F S8x4x512 .i32) (k : Fin 8) : Vec F S1x4x512 .i32 :=
  View.ld x (Rect.unit (s := S8x4x512) ![k.val, 0, 0] S1x4x512.size (fun a => by fin_cases a <;> simp <;> omega))

/-- The mask row of sample `k` in a grid point's block of masks. -/
def maskAt (x : Vec F S8x1x512 .i32) (k : Fin 8) : Vec F S1x1x512 .i32 :=
  View.ld x (Rect.unit (s := S8x1x512) ![k.val, 0, 0] S1x1x512.size (fun a => by fin_cases a <;> simp <;> omega))

/-- The 512 text rows of sample `k` in a grid point's block of 4096 text rows. -/
def textAt (x : Vec F S4096x768 .f32) (k : Fin 8) : Vec F S512x768 .f32 :=
  View.ld x (Rect.unit (s := S4096x768) ![512 * k.val, 0] S512x768.size (fun a => by fin_cases a <;> simp <;> omega))

/-- The image rows of sample `k` in a grid point's block of images. -/
def imageAt (x : Vec F S8x196x768 .bf16) (k : Fin 8) : Vec F S1x196x768 .bf16 :=
  View.ld x (Rect.unit (s := S8x196x768) ![k.val, 0, 0] S1x196x768.size (fun a => by fin_cases a <;> simp <;> omega))

/-- The loss the body computes for one sample from its box rows, mask row, text rows and image rows. -/
def sampleLoss (bb : Vec F S1x4x512 .i32) (mk : Vec F S1x1x512 .i32) (tx : Vec F S512x768 .f32)
    (im : Vec F S1x196x768 .bf16) : F .f32 :=
  k0_pay11 (k0_pay7 (k0_pay4 bb) (k0_pay5 bb) (k0_pay6 bb mk) 14#32 tx im)
    (k0_pay8 (k0_pay4 bb) (k0_pay5 bb) (k0_pay6 bb mk) 14#32 tx im)
    (k0_pay9 (k0_pay4 bb) (k0_pay5 bb) (k0_pay6 bb mk) 14#32 tx im)
    (k0_pay10 (k0_pay4 bb) (k0_pay5 bb) (k0_pay6 bb mk) 14#32 tx im)

/-- The loss of sample `k` of a grid point, from the point's four blocks. -/
def lossAt (x0 : Vec F S8x4x512 .i32) (x1 : Vec F S8x1x512 .i32) (x2 : Vec F S4096x768 .f32)
    (x3 : Vec F S8x196x768 .bf16) (k : Fin 8) : F .f32 :=
  sampleLoss (boxAt x0 k) (maskAt x1 k) (textAt x2 k) (imageAt x3 k)

/-- The sum, in the body's order, of the eight sample losses of a grid point. -/
def pointLoss (x0 : Vec F S8x4x512 .i32) (x1 : Vec F S8x1x512 .i32) (x2 : Vec F S4096x768 .f32)
    (x3 : Vec F S8x196x768 .bf16) : F .f32 :=
  Scalar.addf (Scalar.addf (Scalar.addf (Scalar.addf (Scalar.addf (Scalar.addf (Scalar.addf (lossAt x0 x1 x2 x3 0)
    (lossAt x0 x1 x2 x3 1)) (lossAt x0 x1 x2 x3 2)) (lossAt x0 x1 x2 x3 3)) (lossAt x0 x1 x2 x3 4))
    (lossAt x0 x1 x2 x3 5)) (lossAt x0 x1 x2 x3 6)) (lossAt x0 x1 x2 x3 7)

theorem hz : (![0, 0] : Fin 2 → Nat) = fun _ => 0 := funext fun a => by fin_cases a <;> rfl

/-- The body's stored value, where its nine scalar inputs are the losses of the eight samples (the last one still to be
    divided by the number of patches): the running total plus the sum of the eight losses. -/
theorem pay_sum (x0 : Vec F S8x4x512 .i32) (x1 : Vec F S8x1x512 .i32) (x2 : Vec F S4096x768 .f32)
    (x3 : Vec F S8x196x768 .bf16) (acc : Vec F S1x1 .f32) {l0 l1 l2 l3 l4 l5 l6 d7 s7 : F .f32}
    (h0 : l0 = lossAt x0 x1 x2 x3 0) (h1 : l1 = lossAt x0 x1 x2 x3 1) (h2 : l2 = lossAt x0 x1 x2 x3 2)
    (h3 : l3 = lossAt x0 x1 x2 x3 3) (h4 : l4 = lossAt x0 x1 x2 x3 4) (h5 : l5 = lossAt x0 x1 x2 x3 5)
    (h6 : l6 = lossAt x0 x1 x2 x3 6)
    (h7 : Scalar.mulf (Scalar.subf s7 d7) (Named.named κ "inv_P" 0x3BA72F05#32) = lossAt x0 x1 x2 x3 7) :
    k0_pay1 l0 l1 l2 l3 l4 l5 l6 d7 s7 acc = addf acc (broadcast S1x1 (pointLoss x0 x1 x2 x3)) := by
  unfold k0_pay1 pointLoss
  simp only [shapeCast_self, h0, h1, h2, h3, h4, h5, h6, h7]

/-- At a grid point after the first, the body leaves in the output the running total plus the point's eight losses. -/
theorem out_B (c : Dev nD) (i : grid0.Coords) (a1 : Memref sig .tc .vmem S8x4x512 .i32) (h1 : a1.IsWhole)
    (a2 : Memref sig .tc .vmem S8x1x512 .i32) (h2 : a2.IsWhole) (a3 : Memref sig .tc .vmem S4096x768 .f32) (h3 : a3.IsWhole)
    (a4 : Memref sig .tc .vmem S8x196x768 .bf16) (h4 : a4.IsWhole) (a5 : Memref sig .tc .vmem S1x1 .f32) (h5 : a5.IsWhole)
    (hc : ¬cond0_0 i) (x0 : Vec F S8x4x512 .i32) (x1 : Vec F S8x1x512 .i32) (x2 : Vec F S4096x768 .f32)
    (x3 : Vec F S8x196x768 .bf16) (xo : Vec F S1x1 .f32) :
    out0_B_4 c i a1 h1 a2 h2 a3 h3 a4 h4 a5 h5 hc x0 x1 x2 x3 xo = addf xo (broadcast S1x1 (pointLoss x0 x1 x2 x3)) := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, View.ld_unit_zero (S := S1x1) hz]
  exact pay_sum x0 x1 x2 x3 xo rfl rfl rfl rfl rfl rfl rfl rfl

/-- At the first grid point, the body leaves in the output zero plus the point's eight losses. -/
theorem out_A (c : Dev nD) (i : grid0.Coords) (a1 : Memref sig .tc .vmem S8x4x512 .i32) (h1 : a1.IsWhole)
    (a2 : Memref sig .tc .vmem S8x1x512 .i32) (h2 : a2.IsWhole) (a3 : Memref sig .tc .vmem S4096x768 .f32) (h3 : a3.IsWhole)
    (a4 : Memref sig .tc .vmem S8x196x768 .bf16) (h4 : a4.IsWhole) (a5 : Memref sig .tc .vmem S1x1 .f32) (h5 : a5.IsWhole)
    (hc : cond0_0 i) (x0 : Vec F S8x4x512 .i32) (x1 : Vec F S8x1x512 .i32) (x2 : Vec F S4096x768 .f32)
    (x3 : Vec F S8x196x768 .bf16) :
    out0_A_4 c i a1 h1 a2 h2 a3 h3 a4 h4 a5 h5 hc x0 x1 x2 x3
      = addf (broadcast S1x1 (Scalar.ofBits .f32 0x00000000#32)) (broadcast S1x1 (pointLoss x0 x1 x2 x3)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread]
  exact pay_sum x0 x1 x2 x3 _ rfl rfl rfl rfl rfl rfl rfl rfl

/-- The running total after grid point `n`: zero plus the first point's losses, then one point's losses added at a time. -/
def chain (c : Dev nD) : (n : ℕ) → n < cfg0.N → Vec F S1x1 .f32
  | 0, h => addf (broadcast S1x1 (Scalar.ofBits .f32 0x00000000#32))
      (broadcast S1x1 (pointLoss (iblk m c 0 ⟨0, h⟩) (iblk m c 1 ⟨0, h⟩) (iblk m c 2 ⟨0, h⟩) (iblk m c 3 ⟨0, h⟩)))
  | n + 1, h => addf (chain c n (Nat.lt_of_succ_lt h))
      (broadcast S1x1 (pointLoss (iblk m c 0 ⟨n + 1, h⟩) (iblk m c 1 ⟨n + 1, h⟩) (iblk m c 2 ⟨n + 1, h⟩) (iblk m c 3 ⟨n + 1, h⟩)))

/-- What the output holds after grid point `n` is the running total there. -/
theorem outsAt_chain (c : Dev nD) : ∀ (n : ℕ) (h : n < cfg0.N), outsAt0 m c n h = chain m c n h
  | 0, h => (outsAt0_A m c ⟨0, h⟩ rfl).trans (out_A ..)
  | n + 1, h => by
    have hN : cfg0.N = 8 := N_0
    have hB : ¬(⟨n + 1, h⟩ : Fin cfg0.N).val % 8 = 0 := by dsimp only; omega
    rw [outsAt0_B m c ⟨n + 1, h⟩ hB, out_B]
    show addf (outsAt0 m c n _) _ = addf (chain m c n _) _
    rw [outsAt_chain c n]

end Cert.KernelIdeal.Value

end
-- ==== Proof.KernelRun.lean ====
module

public import proofs.«01_k».proof.Proof.Body
public import Idealize.ShloMosaic.Lib.Claim
public import Idealize.ShloMosaic.Lib.Pointwise
public import Idealize.ShloMosaic.Lib.Pipeline.ValueKit.Tiles

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (ρ : Dev nD → PrngReg)

/-! ## From the body to the result buffer -/

/-- The running total after the last grid point. -/
abbrev total (c : Dev nD) : Vec F S1x1 .f32 := chain m c 7 (by rw [show cfg0.N = 8 from N_0]; decide)

/-- The one write-back, at the last point, writes the total: the output array has one element. -/
theorem flushed_total (c : Dev nD) (t : Fin cfg0.N) (hf : (cfg0.win 4).flush t = true) :
    (dats m 0 c).flushed 4 t = ((cfg0.win 4).blk t).view.read (Elt F) (total m c) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4, outsAt_chain]
  have hz' : (fun a => win0_4.index t0_7 a * main_call0_v4.ty.shape.size a) = fun _ => 0 :=
    funext fun a => by fin_cases a <;> decide
  exact (Memref.read_access_unit_zero (Elt F) main_call0_v4 hz' (fun a => by rw [congrFun hz' a]; simp) (total m c)).symm

/-- The output array ends holding the total. -/
theorem final_total (c : Dev nD) : (dats m 0 c).arrAt 4 cfg0.N = total m c :=
  (dats m 0 c).arrAt_eq_of_cover 4 (total m c) (flushed_total m c) fun i =>
    ⟨t0_7, (flush0_4 t0_7).mpr rfl, by
      show i ∈ ((View.whole main_call0_v4).slice (win0_4.rect t0_7)).set
      rw [View.set_slice_whole, Rect.mem_set_unit]
      intro a
      have h : ∀ a : Fin 2, win0_4.index t0_7 a * win0_4.size a = 0 ∧ win0_4.xsize (grid0.coords t0_7) a = 1 := by
        decide +kernel
      have hi : (i a : Nat) < 1 := by have := (i a).isLt; fin_cases a <;> exact this
      show win0_4.index t0_7 a * win0_4.size a ≤ (i a : Nat)
        ∧ (i a : Nat) < win0_4.index t0_7 a * win0_4.size a + win0_4.xsize (grid0.coords t0_7) a
      rw [(h a).1, (h a).2]; omega⟩

/-- The result scalar: the total times 1/64. -/
abbrev result (c : Dev nD) : Buf (Elt F) ((c : Thread nD τ).loc main_v0) :=
  mulf (shapeCast S_ (total m c) shapeCasts_S1x1_S_) (constant S_ .f32 0x3C800000#32)

/-- The host lines after the grid leave the result scalar in the result buffer. -/
theorem tail_result (c : Dev nD) :
    Pipeline.afterTail₀ cfgs (dats m) 0 (V0 m) [hostOps1] c main_v0 = result m c := by
  have h := Pipeline.withArrays_arr spec0 (by decide) c (V0 m c) (fun w => (dats m 0 c).arrAt w (cfgs 0).N) 4
  unfold Pipeline.afterTail₀
  unfold hostOps1
  simp only [List.flatten_cons, List.flatten_nil, List.append_nil]
  after_results
  exact congrArg (fun x => mulf (shapeCast S_ x shapeCasts_S1x1_S_) (constant S_ .f32 0x3C800000#32)) (h.trans (final_total m c))

/-- The whole run: the result buffer ends at the result scalar, and the arguments are unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨h.1 c, h.2 c⟩)
    (θ_run_and (Q₁ := fun r => ∀ c : Dev nD, r.2.mem ((c : Thread nD τ).loc main_v0) = result m c)
      ((θ_run defs _ _).mono (fun _ h c =>
        ((h c).2 main_v0 (Pipeline.mem_restRefs_of main_v0 (by decide) (by decide))).trans (tail_result m c)) (run_main m ρ))
      (unchanged m ρ))

/-! ## The blocks as entries of the arguments -/

/-- The kernel's first operand is the boxes with their last two axes exchanged. -/
theorem V_box (c : Dev nD) : V m c main_call0_v0
    = transpose S64x4x512 [0, 2, 1] (m ((c : Thread nD τ).loc main_arg2)) transposes_S64x512x4_S64x4x512_0_2_1 := by
  unfold V V0 hostOps0
  simp only [List.flatten_cons, List.flatten_nil, List.append_nil]
  after_results
  rfl

/-- The kernel's second operand is the masks with a unit axis inserted. -/
theorem V_mask (c : Dev nD) : V m c main_call0_v1
    = shapeCast S64x1x512 (m ((c : Thread nD τ).loc main_arg3)) shapeCasts_S64x512_S64x1x512 := by
  unfold V V0 hostOps0
  simp only [List.flatten_cons, List.flatten_nil, List.append_nil]
  after_results
  rfl

/-- The kernel's third operand is the text rows of all samples under one another. -/
theorem V_text (c : Dev nD) : V m c main_call0_v2
    = shapeCast S32768x768 (m ((c : Thread nD τ).loc main_arg0)) shapeCasts_S64x512x768_S32768x768 := by
  unfold V V0 hostOps0
  simp only [List.flatten_cons, List.flatten_nil, List.append_nil]
  after_results
  rfl

/-- The kernel's fourth operand is the images, narrowed. -/
theorem V_image (c : Dev nD) : V m c main_call0_v3
    = truncf .bf16 (m ((c : Thread nD τ).loc main_arg1)) bitsLt_bf16_f32 := by
  unfold V V0 hostOps0
  simp only [List.flatten_cons, List.flatten_nil, List.append_nil]
  after_results
  rfl

/-- Sample `k` of grid point `t` is sample `8 t + k` of the batch. -/
def sampleOf (t : Fin cfg0.N) (k : Fin 8) : Fin 64 :=
  ⟨8 * t.val + k.val, by have : t.val < 8 := Nat.lt_of_lt_of_eq t.isLt N_0; omega⟩

/-- Entry `(r, l)` of sample `k`'s boxes at grid point `t` is coordinate `r` of box `l` of that sample. -/
theorem box_entry (c : Dev nD) (t : Fin cfg0.N) (k : Fin 8) (r : Fin 4) (l : Fin 512) :
    boxAt (iblk m c 0 t) k (ix3 0 r l)
      = (m ((c : Thread nD τ).loc main_arg2) : Vec F S64x512x4 .i32) (ix3 (sampleOf t k) l r) := by
  have hi : ∀ t : Fin grid0.N, win0_0.index t 0 = t.val ∧ win0_0.index t 1 = 0 ∧ win0_0.index t 2 = 0 := by decide +kernel
  unfold boxAt iblk
  rw [View.ld_apply, View.read_apply]
  show (V m c main_call0_v0 : Vec F S64x4x512 .i32) _ = _
  rw [V_box]
  rw [show (transpose S64x4x512 [0, 2, 1] (m ((c : Thread nD τ).loc main_arg2)) transposes_S64x512x4_S64x4x512_0_2_1 : Vec F S64x4x512 .i32)
    = fun j => (m ((c : Thread nD τ).loc main_arg2) : Vec F S64x512x4 .i32) (ix3 (j 0) (j 2) (j 1)) from by
      funext j; idx_vars j; pointwise]
  refine congrArg (m ((c : Thread nD τ).loc main_arg2) : Vec F S64x512x4 .i32) (funext fun a => Fin.ext ?_)
  match a with
  | ⟨0, _⟩ => show win0_0.index t 0 * 8 + 1 * (k.val + 1 * 0) = 8 * t.val + k.val; rw [(hi t).1]; omega
  | ⟨1, _⟩ => show win0_0.index t 2 * 512 + 1 * (0 + 1 * l.val) = l.val; rw [(hi t).2.2]; omega
  | ⟨2, _⟩ => show win0_0.index t 1 * 4 + 1 * (0 + 1 * r.val) = r.val; rw [(hi t).2.1]; omega

/-- Entry `l` of sample `k`'s mask row at grid point `t` is entry `l` of that sample's mask. -/
theorem mask_entry (c : Dev nD) (t : Fin cfg0.N) (k : Fin 8) (l : Fin 512) :
    maskAt (iblk m c 1 t) k (ix3 0 0 l)
      = (m ((c : Thread nD τ).loc main_arg3) : Vec F S64x512 .i32) (ix2 (sampleOf t k) l) := by
  have hi : ∀ t : Fin grid0.N, win0_1.index t 0 = t.val ∧ win0_1.index t 2 = 0 := by decide +kernel
  unfold maskAt iblk
  rw [View.ld_apply, View.read_apply]
  show (V m c main_call0_v1 : Vec F S64x1x512 .i32) _ = _
  rw [V_mask]
  rw [show (shapeCast S64x1x512 (m ((c : Thread nD τ).loc main_arg3)) shapeCasts_S64x512_S64x1x512 : Vec F S64x1x512 .i32)
    = fun j => (m ((c : Thread nD τ).loc main_arg3) : Vec F S64x512 .i32) (ix2 (j 0) (j 2)) from by
      funext j; idx_vars j; pointwise]
  refine congrArg (m ((c : Thread nD τ).loc main_arg3) : Vec F S64x512 .i32) (funext fun a => Fin.ext ?_)
  match a with
  | ⟨0, _⟩ => show win0_1.index t 0 * 8 + 1 * (k.val + 1 * 0) = 8 * t.val + k.val; rw [(hi t).1]; omega
  | ⟨1, _⟩ => show win0_1.index t 2 * 512 + 1 * (0 + 1 * l.val) = l.val; rw [(hi t).2]; omega

/-- Entry `(l, d)` of sample `k`'s text rows at grid point `t` is entry `d` of text row `l` of that sample. -/
theorem text_entry (c : Dev nD) (t : Fin cfg0.N) (k : Fin 8) (l : Fin 512) (d : Fin 768) :
    textAt (iblk m c 2 t) k (ix2 l d)
      = (m ((c : Thread nD τ).loc main_arg0) : Vec F S64x512x768 .f32) (ix3 (sampleOf t k) l d) := by
  have hi : ∀ t : Fin grid0.N, win0_2.index t 0 = t.val ∧ win0_2.index t 1 = 0 := by decide +kernel
  unfold textAt iblk
  rw [View.ld_apply, View.read_apply]
  show (V m c main_call0_v2 : Vec F S32768x768 .f32) _ = _
  rw [V_text]
  refine shapeCast_apply (s := S64x512x768) (t := S32768x768) _ _ _ _ ?_
  rw [Shape.rowMajor_val_three, Shape.rowMajor_val_two]
  show ((8 * t.val + k.val) * 512 + l.val) * 768 + d.val
    = (win0_2.index t 0 * 4096 + 1 * (512 * k.val + 1 * l.val)) * 768 + (win0_2.index t 1 * 768 + 1 * (0 + 1 * d.val))
  rw [(hi t).1, (hi t).2]; omega

/-- Entry `(p, d)` of sample `k`'s image rows at grid point `t` is entry `d` of patch `p` of that sample, narrowed. -/
theorem image_entry (c : Dev nD) (t : Fin cfg0.N) (k : Fin 8) (p : Fin 196) (d : Fin 768) :
    imageAt (iblk m c 3 t) k (ix3 0 p d)
      = (truncf .bf16 (m ((c : Thread nD τ).loc main_arg1)) bitsLt_bf16_f32 : Vec F S64x196x768 .bf16) (ix3 (sampleOf t k) p d) := by
  have hi : ∀ t : Fin grid0.N, win0_3.index t 0 = t.val ∧ win0_3.index t 1 = 0 ∧ win0_3.index t 2 = 0 := by decide +kernel
  unfold imageAt iblk
  rw [View.ld_apply, View.read_apply]
  show (V m c main_call0_v3 : Vec F S64x196x768 .bf16) _ = _
  rw [V_image]
  refine congrArg (truncf .bf16 (m ((c : Thread nD τ).loc main_arg1)) bitsLt_bf16_f32 : Vec F S64x196x768 .bf16) (funext fun a => Fin.ext ?_)
  match a with
  | ⟨0, _⟩ => show win0_3.index t 0 * 8 + 1 * (k.val + 1 * 0) = 8 * t.val + k.val; rw [(hi t).1]; omega
  | ⟨1, _⟩ => show win0_3.index t 1 * 196 + 1 * (0 + 1 * p.val) = p.val; rw [(hi t).2.1]; omega
  | ⟨2, _⟩ => show win0_3.index t 2 * 768 + 1 * (0 + 1 * d.val) = d.val; rw [(hi t).2.2]; omega

end Cert.KernelIdeal.Value

end
-- ==== Proof.Spec.lean ====
module

public import Idealize.ShloMosaic.Lib.IdealHost
public import Idealize.ShloMosaic.Lib.Pointwise
public import Idealize.ShloMosaic.Lib.WordCmp

@[expose] public section

noncomputable section

namespace Cert.Spec

open Idealize.ShloMosaic

/-! ## The patch label of a text row, on words -/

/-- The grid cell of a coordinate: its quotient by the patch side 72, rounded down. -/
def cell (x : BitVec 32) : BitVec 32 := if x.msb = true ∧ x.srem 72#32 ≠ 0#32 then x.sdiv 72#32 - 1#32 else x.sdiv 72#32

/-- The label of a text row with cells `a b` of its first corner and `c d` of its second: the patch number when the
    corners share a cell and the mask word is not zero, else −100. -/
def label (a b c d mk : BitVec 32) : BitVec 32 :=
  if (a = c ∧ b = d) ∧ mk ≠ 0#32 then b * 14#32 + a else 4294967196#32

/-- Division by 72 is never one of the unit's corner cases. -/
theorem divsi_72 (u : ArithUnit) (x : BitVec 32) : IntOp.divsi u x 72#32 = x.sdiv 72#32 :=
  if_neg (by unfold IntOp.SDivCorner; rintro (h | ⟨_, h⟩) <;> exact absurd h (by decide))

/-- The remainder by 72 is never one of the unit's corner cases. -/
theorem remsi_72 (u : ArithUnit) (x : BitVec 32) : IntOp.remsi u x 72#32 = x.srem 72#32 :=
  if_neg (by unfold IntOp.SDivCorner; rintro (h | ⟨_, h⟩) <;> exact absurd h (by decide))

theorem ofBool_ne_zero (p : Prop) [Decidable p] : BitVec.ofBool (decide p) = 1#1 ↔ p := by
  by_cases h : p <;> simp [h]

/-- Selecting the quotient less one, where the sign test `s` says "negative" whenever the remainder is not zero,
    gives the cell. -/
theorem select_cell (x : BitVec 32) (s : BitVec 1) (u : ArithUnit) (hs : x ≠ 0#32 → (s = 1#1 ↔ x.msb = true)) :
    Scalar.select (IntOp.andi s (IntOp.cmpi .ne (IntOp.remsi u x 72#32) 0#32))
      (IntOp.subi (IntOp.divsi u x 72#32) 1#32) (IntOp.divsi u x 72#32) = cell x := by
  rw [divsi_72, remsi_72, WordCmp.cmpi_ne_eq]
  unfold cell Scalar.select IntOp.andi IntOp.subi
  by_cases hr : x.srem 72#32 = 0#32
  · have h1 : ¬ (s &&& BitVec.ofBool (decide (x.srem 72#32 ≠ 0#32)) = 1) := by
      rw [hr]; clear hs; revert s; decide
    rw [if_neg h1, if_neg (fun h => h.2 hr)]
  · have hx : x ≠ 0#32 := by rintro rfl; exact hr (by decide)
    have h1 : (s &&& BitVec.ofBool (decide (x.srem 72#32 ≠ 0#32)) = 1) ↔ s = 1#1 := by
      rw [show decide (x.srem 72#32 ≠ 0#32) = true from decide_eq_true hr]; clear hs; revert s; decide
    by_cases hm : x.msb = true
    · rw [if_pos (h1.mpr ((hs hx).mpr hm)), if_pos ⟨hm, hr⟩]
    · rw [if_neg (fun h => hm ((hs hx).mp (h1.mp h))), if_neg (fun h => hm h.1)]

/-- The kernel's floor division of a word by 72 is the cell. -/
theorem kernel_cell (x : BitVec 32) (u : ArithUnit) :
    Scalar.select (IntOp.andi (IntOp.cmpi .ne
        (IntOp.subi (BitVec.setWidth 32 (IntOp.cmpi .sgt x 0#32)) (BitVec.setWidth 32 (IntOp.cmpi .slt x 0#32)))
        (Scalar.subi (Scalar.extui (Scalar.cmpi .sgt 72#32 0#32)) (Scalar.extui (Scalar.cmpi .slt 72#32 0#32))))
        (IntOp.cmpi .ne (IntOp.remsi u x 72#32) 0#32))
      (IntOp.subi (IntOp.divsi u x 72#32) 1#32) (IntOp.divsi u x 72#32) = cell x := by
  refine select_cell x _ u fun hx => ?_
  rw [WordCmp.cmpi_sgt_eq, WordCmp.cmpi_slt_eq]
  have h0 : x.toInt ≠ (0#32).toInt := fun h => hx (BitVec.toInt_inj.mp h)
  rw [show (0#32 : BitVec 32).toInt = 0 from rfl] at h0 ⊢
  rw [BitVec.msb_eq_toInt]
  by_cases hn : x.toInt < 0
  · rw [decide_eq_false (show ¬ 0 < x.toInt by omega), decide_eq_true hn]; decide
  · rw [decide_eq_true (show 0 < x.toInt by omega), decide_eq_false hn]; decide

/-- The host's floor division of a word by 72 is the cell. -/
theorem host_cell (x : BitVec 32) (u : ArithUnit) :
    Scalar.select (IntOp.andi (IntOp.cmpi .ne
        (if x = 0 then (0 : BitVec 32) else if x.msb = true then -1 else 1)
        (if (72#32 : BitVec 32) = 0 then 0 else if (72#32 : BitVec 32).msb = true then -1 else 1))
        (IntOp.cmpi .ne (IntOp.remsi u x 72#32) 0#32))
      (IntOp.subi (IntOp.divsi u x 72#32) 1#32) (IntOp.divsi u x 72#32) = cell x := by
  refine select_cell x _ u fun hx => ?_
  rw [if_neg (show ¬ x = 0 from hx)]
  by_cases hm : x.msb = true
  · rw [if_pos hm]; simp only [hm, iff_true]; decide
  · rw [if_neg hm]; simp only [hm, iff_false]; decide

/-- The kernel's label, on words. -/
theorem kernel_label (a b c d mk : BitVec 32) :
    Scalar.select (IntOp.andi (IntOp.andi (IntOp.cmpi .eq a c) (IntOp.cmpi .eq b d)) (IntOp.cmpi .ne mk 0#32))
      (IntOp.addi (IntOp.muli b 14#32) a) 4294967196#32 = label a b c d mk := by
  rw [WordCmp.cmpi_eq_eq, WordCmp.cmpi_eq_eq, WordCmp.cmpi_ne_eq]
  unfold label Scalar.select IntOp.andi IntOp.addi IntOp.muli
  by_cases h1 : a = c <;> by_cases h2 : b = d <;> by_cases h3 : mk = 0#32 <;> simp [h1, h2, h3]

/-- The reference's label, on words: its two nested choices are the kernel's one. -/
theorem host_label (a b c d mk : BitVec 32) :
    Scalar.select (IntOp.cmpi .ne mk 0#32)
      (Scalar.select (IntOp.andi (IntOp.cmpi .eq a c) (IntOp.cmpi .eq b d)) (IntOp.addi (IntOp.muli b 14#32) a) 4294967196#32)
      4294967196#32 = label a b c d mk := by
  rw [WordCmp.cmpi_eq_eq, WordCmp.cmpi_eq_eq, WordCmp.cmpi_ne_eq]
  unfold label Scalar.select IntOp.andi IntOp.addi IntOp.muli
  by_cases h1 : a = c <;> by_cases h2 : b = d <;> by_cases h3 : mk = 0#32 <;> simp [h1, h2, h3]

/-! ## The loss, over the reals -/

/-- The text rows of a sample whose label is patch `q`. -/
def hits (lab : Fin 512 → BitVec 32) (q : Fin 196) : Finset (Fin 512) :=
  Finset.univ.filter fun l => lab l = BitVec.ofNat 32 q.val

/-- The mean of the text rows of patch `q` (zero when there are none), at feature `d`. -/
def patchMean (lab : Fin 512 → BitVec 32) (x : Fin 512 → Fin 768 → ℝ) (q : Fin 196) (d : Fin 768) : ℝ :=
  (∑ l ∈ hits lab q, x l d) / max ((hits lab q).card : ℝ) 1

/-- The logit of image patch `p` against text patch `q`. -/
def logit (lab : Fin 512 → BitVec 32) (x : Fin 512 → Fin 768 → ℝ) (y : Fin 196 → Fin 768 → ℝ) (p q : Fin 196) : ℝ :=
  ∑ d, y p d * patchMean lab x q d

/-- The logarithm of the sum of exponentials. -/
def lse (f : Fin 196 → ℝ) : ℝ := Real.log (∑ k, Real.exp (f k))

/-- The loss of one sample, from its logits: half the sum of the two cross entropies, averaged over the patches. -/
def sampleLoss (M : Fin 196 → Fin 196 → ℝ) : ℝ :=
  ((∑ p, lse (M p) + ∑ q, lse fun p => M p q) * (1 / 2) - ∑ p, M p p) * (1 / 196)

/-- Subtracting a number under the exponentials subtracts it from the logarithm of their sum. -/
theorem log_sum_shift (f : Fin 196 → ℝ) (a : ℝ) : Real.log (∑ k, Real.exp (f k - a)) = lse f - a := by
  have h : ∑ k, Real.exp (f k - a) = (∑ k, Real.exp (f k)) * Real.exp (-a) := by
    rw [Finset.sum_mul]; exact Finset.sum_congr rfl fun k _ => by rw [sub_eq_add_neg, Real.exp_add]
  have hp : 0 < ∑ k, Real.exp (f k) := Finset.sum_pos (fun k _ => Real.exp_pos _) ⟨0, Finset.mem_univ _⟩
  rw [h, Real.log_mul hp.ne' (Real.exp_pos _).ne', Real.log_exp]; unfold lse; ring

/-- The average over the samples of the sample losses is the mean of the two directions' cross entropies over the batch. -/
theorem loss_mean (M : Fin 64 → Fin 196 → Fin 196 → ℝ) :
    (∑ s, sampleLoss (M s)) * (1 / 64)
      = (-((∑ s, ∑ p, (M s p p - lse (M s p))) * (1 / 12544))
          + -((∑ s, ∑ q, (M s q q - lse fun p => M s p q)) * (1 / 12544))) * (1 / 2) := by
  unfold sampleLoss
  simp only [Finset.sum_sub_distrib, Finset.sum_add_distrib, ← Finset.sum_mul]
  ring

/-- The label of text row `l` of sample `s`, from the boxes and the masks of the batch. -/
def batchLabel (bb : IVec ⟨3, ![64, 512, 4]⟩ 32) (mk : IVec ⟨2, ![64, 512]⟩ 32) (s : Fin 64) (l : Fin 512) : BitVec 32 :=
  label (cell (bb (ix3 s l 0))) (cell (bb (ix3 s l 1))) (cell (bb (ix3 s l 2))) (cell (bb (ix3 s l 3))) (mk (ix2 s l))

/-- The logits of sample `s`, from the four arrays of the batch. -/
def batchLogit (x : FVec Ideal ⟨3, ![64, 512, 768]⟩ .f32) (y : FVec Ideal ⟨3, ![64, 196, 768]⟩ .f32)
    (bb : IVec ⟨3, ![64, 512, 4]⟩ 32) (mk : IVec ⟨2, ![64, 512]⟩ 32) (s : Fin 64) : Fin 196 → Fin 196 → ℝ :=
  logit (batchLabel bb mk s) (fun l d => (x (ix3 s l d)).toReal) fun p d => (y (ix3 s p d)).toReal

/-! ## From the extended reals to the reals -/

/-- A sum of reals is the same sum in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The word of minus infinity. -/
theorem ofBits_neg_inf : Ideal.ofBits .f32 0xFF800000#32 = ⊥ := by simp [Ideal.ofBits, Ideal.ieee]
/-- The word of plus infinity. -/
theorem ofBits_inf : Ideal.ofBits .f32 0x7F800000#32 = ⊤ := by simp [Ideal.ofBits, Ideal.ieee]
/-- The word of one half. -/
theorem ofBits_half : Ideal.ofBits .f32 0x3F000000#32 = ((1 / 2 : ℝ) : EReal) := by
  simp [Ideal.ofBits, Ideal.ieee, -EReal.coe_mul]; norm_num
/-- The word of 1/64. -/
theorem ofBits_64th : Ideal.ofBits .f32 0x3C800000#32 = ((1 / 64 : ℝ) : EReal) := by
  simp [Ideal.ofBits, Ideal.ieee, -EReal.coe_mul]; norm_num
/-- The word of 12544. -/
theorem ofBits_12544 : Ideal.ofBits .f32 0x46440000#32 = ((12544 : ℝ) : EReal) := by
  simp [Ideal.ofBits, Ideal.ieee, -EReal.coe_mul]; norm_num
/-- The word of two. -/
theorem ofBits_two : Ideal.ofBits .f32 0x40000000#32 = ((2 : ℝ) : EReal) := by
  simp [Ideal.ofBits, Ideal.ieee, -EReal.coe_mul]; norm_num

/-- The maximum of 196 reals, started at minus infinity, is a real. -/
theorem fold_max_coe (f : Fin 196 → ℝ) :
    ∃ a : ℝ, Finset.univ.fold max (Ideal.ofBits .f32 0xFF800000#32) (fun k => ((f k : ℝ) : EReal)) = (a : EReal) := by
  obtain ⟨k, -, hk⟩ := Finset.exists_max_image Finset.univ f ⟨0, Finset.mem_univ _⟩
  refine ⟨f k, le_antisymm ?_ ?_⟩
  · rw [Finset.fold_max_le, ofBits_neg_inf]
    exact ⟨bot_le, fun x hx => EReal.coe_le_coe_iff.mpr (hk x hx)⟩
  · rw [Finset.le_fold_max]
    exact Or.inr ⟨k, Finset.mem_univ _, le_rfl⟩

/-- The logarithm of a sum of shifted exponentials of reals. -/
theorem log_sum_exp_coe (f : Fin 196 → ℝ) (a : ℝ) :
    Ideal.log (∑ k, Ideal.exp (((f k : ℝ) : EReal) - (a : EReal))) = ((lse f - a : ℝ) : EReal) := by
  have hp : 0 < ∑ k, Real.exp (f k - a) := Finset.sum_pos (fun k _ => Real.exp_pos _) ⟨0, Finset.mem_univ _⟩
  rw [← log_sum_shift]
  simp only [← EReal.coe_sub, Ideal.exp_coe]
  rw [← coe_sum, Ideal.log_coe, if_neg (not_le.mpr hp)]

/-- An extended real whose absolute value is below plus infinity is a real. -/
theorem coe_toReal_of_abs_lt {x : EReal} (h : max x (-x) < ⊤) : ((x.toReal : ℝ) : EReal) = x :=
  EReal.coe_toReal (fun e => by rw [e] at h; simp at h) (fun e => by rw [e] at h; simp at h)

end Cert.Spec

end
-- ==== Proof.SampleValue.lean ====
module

public import proofs.«01_k».proof.Proof.KernelRun
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-! ## One sample's loss as a real number -/

/-- The label of text row `l` of a sample, from its box rows and mask row. -/
def rowLabel (bb : Vec Ideal S1x4x512 .i32) (mk : Vec Ideal S1x1x512 .i32) (l : Fin 512) : BitVec 32 :=
  label (cell (bb (ix3 0 0 l))) (cell (bb (ix3 0 1 l))) (cell (bb (ix3 0 2 l))) (cell (bb (ix3 0 3 l))) (mk (ix3 0 0 l))

/-- The kernel's floor quotients are the cells of the coordinates. -/
theorem pay3_cell (bb : Vec Ideal S1x4x512 .i32) (r : Fin 4) (l : Fin 512) :
    k0_pay3 (F := Ideal) bb (ix2 r l) = cell (bb (ix3 0 r l)) := by
  pointwise [k0_pay3]
  exact kernel_cell _ _

/-- The kernel's choice between patch number and −100 is the label. -/
theorem choice_label (bb : Vec Ideal S1x4x512 .i32) (mk : Vec Ideal S1x1x512 .i32) (l : Fin 512) :
    Scalar.select (k0_pay6 (F := Ideal) bb mk (ix2 0 l))
        (IntOp.addi (IntOp.muli (k0_pay5 (F := Ideal) bb (ix2 0 l)) 14#32) (k0_pay4 (F := Ideal) bb (ix2 0 l))) 4294967196#32
      = rowLabel bb mk l := by
  pointwise [k0_pay6, k0_pay5, k0_pay4]
  simp only [pay3_cell]
  exact kernel_label _ _ _ _ _

/-- The one-hot entry of patch `q` and a label, as a real. -/
theorem onehot_coe (q : Fin 196) (b : BitVec 32) :
    (FloatOps.sitofp (F := Ideal) .f32 (BitVec.setWidth 32 (IntOp.cmpi .eq (BitVec.ofNat 32 q.val) b)) : EReal)
      = ((if b = BitVec.ofNat 32 q.val then (1 : ℝ) else 0 : ℝ) : EReal) := by
  show (((BitVec.setWidth 32 (IntOp.cmpi .eq (BitVec.ofNat 32 q.val) b)).toInt : ℝ) : EReal) = _
  rw [WordCmp.cmpi_eq_eq]
  by_cases h : b = BitVec.ofNat 32 q.val
  · rw [decide_eq_true h.symm, if_pos h]
    rw [show (BitVec.setWidth 32 (BitVec.ofBool true)).toInt = 1 from by decide, Int.cast_one]
  · rw [decide_eq_false (fun e => h e.symm), if_neg h]
    rw [show (BitVec.setWidth 32 (BitVec.ofBool false)).toInt = 0 from by decide, Int.cast_zero]

variable (bb : Vec Ideal S1x4x512 .i32) (mk : Vec Ideal S1x1x512 .i32) (tx : Vec Ideal S512x768 .f32)
  (im : Vec Ideal S1x196x768 .bf16) (X : Fin 512 → Fin 768 → ℝ) (Y : Fin 196 → Fin 768 → ℝ)

/-- The kernel's logit of image patch `p` against text patch `q`, where text and image rows are real. -/
theorem pay7_logit (hX : ∀ l d, tx (ix2 l d) = ((X l d : ℝ) : EReal)) (hY : ∀ p d, im (ix3 0 p d) = ((Y p d : ℝ) : EReal))
    (p q : Fin 196) :
    k0_pay7 (F := Ideal) (k0_pay4 bb) (k0_pay5 bb) (k0_pay6 bb mk) 14#32 tx im (ix2 p q)
      = ((logit (rowLabel bb mk) X Y p q : ℝ) : EReal) := by
  pointwise [k0_pay7]
  simp only [choice_label, onehot_coe, hX, hY, ← EReal.coe_mul, ← coe_sum]
  have hc : ∑ l, (if rowLabel bb mk l = BitVec.ofNat 32 q.val then (1 : ℝ) else 0) = ((hits (rowLabel bb mk) q).card : ℝ) := by
    rw [Finset.sum_boole]; rfl
  have hm : max ((((hits (rowLabel bb mk) q).card : ℝ) : ℝ) : EReal) 1 = ((max ((hits (rowLabel bb mk) q).card : ℝ) 1 : ℝ) : EReal) := by
    rw [← EReal.coe_one]; exact (EReal.coe_strictMono.monotone.map_max).symm
  have h0 : max ((hits (rowLabel bb mk) q).card : ℝ) 1 ≠ 0 := (lt_of_lt_of_le one_pos (le_max_right _ _)).ne'
  rw [hc, hm, Ideal.div_coe h0, one_mul]
  simp only [← EReal.coe_mul, ← coe_sum]
  refine congrArg Real.toEReal (Finset.sum_congr rfl fun d _ => congrArg (Y p d * ·) ?_)
  unfold patchMean hits
  rw [Finset.sum_filter, mul_one_div]
  simp only [ite_mul, one_mul, zero_mul]

/-- The kernel's row statistic: the logarithm of the sum of exponentials along a row. -/
theorem pay8_lse (M : Fin 196 → Fin 196 → ℝ)
    (hM : ∀ p q, k0_pay7 (F := Ideal) (k0_pay4 bb) (k0_pay5 bb) (k0_pay6 bb mk) 14#32 tx im (ix2 p q) = ((M p q : ℝ) : EReal))
    (p : Fin 196) :
    k0_pay8 (F := Ideal) (k0_pay4 bb) (k0_pay5 bb) (k0_pay6 bb mk) 14#32 tx im (ix2 p 0) = ((lse (M p) : ℝ) : EReal) := by
  pointwise [k0_pay8]
  simp only [hM]
  obtain ⟨a, ha⟩ := fold_max_coe (M p)
  rw [ha, log_sum_exp_coe, ← EReal.coe_add, sub_add_cancel]

/-- The kernel's column statistic: the logarithm of the sum of shifted exponentials, plus the shift. -/
theorem pay9_pay10_lse (M : Fin 196 → Fin 196 → ℝ)
    (hM : ∀ p q, k0_pay7 (F := Ideal) (k0_pay4 bb) (k0_pay5 bb) (k0_pay6 bb mk) 14#32 tx im (ix2 p q) = ((M p q : ℝ) : EReal))
    (q : Fin 196) :
    Ideal.log (k0_pay10 (F := Ideal) (k0_pay4 bb) (k0_pay5 bb) (k0_pay6 bb mk) 14#32 tx im (ix2 0 q))
        + k0_pay9 (F := Ideal) (k0_pay4 bb) (k0_pay5 bb) (k0_pay6 bb mk) 14#32 tx im (ix2 0 q)
      = ((lse (fun p => M p q) : ℝ) : EReal) := by
  have h9 : k0_pay9 (F := Ideal) (k0_pay4 bb) (k0_pay5 bb) (k0_pay6 bb mk) 14#32 tx im (ix2 0 q)
      = Finset.univ.fold max (Ideal.ofBits .f32 0xFF800000#32) (fun p => ((M p q : ℝ) : EReal)) := by
    pointwise [k0_pay9]
    simp only [hM]
  obtain ⟨a, ha⟩ := fold_max_coe fun p => M p q
  rw [ha] at h9
  pointwise [k0_pay10]
  simp only [hM]
  rw [h9, log_sum_exp_coe (fun p => M p q) a, ← EReal.coe_add, sub_add_cancel]

/-- The loss from the logits and the two statistics, where all of them are real. -/
theorem pay11_loss (M : Fin 196 → Fin 196 → ℝ) (v69 : FVec Ideal S196x196 .f32) (v78 : FVec Ideal S196x1 .f32)
    (v80 v85 : FVec Ideal S1x196 .f32) (hM : ∀ p q, v69 (ix2 p q) = ((M p q : ℝ) : EReal))
    (hr : ∀ p, v78 (ix2 p 0) = ((lse (M p) : ℝ) : EReal))
    (hc : ∀ q, Ideal.log (v85 (ix2 0 q)) + v80 (ix2 0 q) = ((lse (fun p => M p q) : ℝ) : EReal)) :
    k0_pay11 (F := Ideal) v69 v78 v80 v85 = ((Cert.Spec.sampleLoss M : ℝ) : EReal) := by
  have hd : ∀ p q : Fin 196, Scalar.select (IntOp.cmpi .eq (BitVec.ofNat 32 p.val) (BitVec.ofNat 32 q.val)) (((M p q : ℝ) : EReal)) 0
      = ((if p = q then M p q else 0 : ℝ) : EReal) := by
    intro p q
    rw [WordCmp.cmpi_eq_eq]
    have hb : BitVec.ofNat 32 p.val = BitVec.ofNat 32 q.val ↔ p = q := by
      constructor
      · intro h
        have := congrArg BitVec.toNat h
        simp only [BitVec.toNat_ofNat] at this
        exact Fin.ext (by omega)
      · rintro rfl; rfl
    by_cases h : p = q
    · rw [decide_eq_true (hb.mpr h), if_pos h]; rfl
    · rw [decide_eq_false (fun e => h (hb.mp e)), if_neg h]; rfl
  have hn : (Named.named (F := Ideal) κ "inv_P" (φ := .f32) 0x3BA72F05#32 : EReal) = ((1 / 196 : ℝ) : EReal) :=
    IdealRules.named_const.ideal_named_scalar _ _ _ _ rfl
  pointwise [k0_pay11]
  simp only [hM, hr, hc, hd, ofBits_half, Fin.sum_univ_one, Finset.univ_unique, Finset.sum_const, Finset.card_singleton, one_smul]
  erw [hn]
  simp only [← coe_sum, ← EReal.coe_add, ← EReal.coe_mul, ← EReal.coe_sub]
  refine congrArg Real.toEReal ?_
  unfold Cert.Spec.sampleLoss
  simp only [Finset.sum_ite_eq, Finset.mem_univ, if_true]

/-- One sample's loss, where its text and image rows are real. -/
theorem sampleLoss_coe (hX : ∀ l d, tx (ix2 l d) = ((X l d : ℝ) : EReal)) (hY : ∀ p d, im (ix3 0 p d) = ((Y p d : ℝ) : EReal)) :
    sampleLoss (F := Ideal) bb mk tx im = ((Cert.Spec.sampleLoss (logit (rowLabel bb mk) X Y) : ℝ) : EReal) := by
  have hM := pay7_logit bb mk tx im X Y hX hY
  exact pay11_loss _ _ _ _ _ hM (pay8_lse bb mk tx im _ hM) (pay9_pay10_lse bb mk tx im _ hM)

end Cert.KernelIdeal.Value

end
-- ==== Proof.KernelValue.lean ====
module

public import proofs.«01_k».proof.Proof.SampleValue

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

variable (m : (ℓ : Loc nD τ sig) → Buf (Elt Ideal) ℓ) (c : Dev nD)

/-! ## The result scalar as a real number -/

/-- The text array of the launch. -/
abbrev textArr : FVec Ideal S64x512x768 .f32 := m ((c : Thread nD τ).loc main_arg0)
/-- The image array of the launch. -/
abbrev imageArr : FVec Ideal S64x196x768 .f32 := m ((c : Thread nD τ).loc main_arg1)
/-- The box array of the launch. -/
abbrev boxArr : IVec S64x512x4 32 := m ((c : Thread nD τ).loc main_arg2)
/-- The mask array of the launch. -/
abbrev maskArr : IVec S64x512 32 := m ((c : Thread nD τ).loc main_arg3)

/-- The loss of sample `s` of the launch, a real. -/
def lossOf (s : Fin 64) : ℝ := Cert.Spec.sampleLoss (batchLogit (textArr m c) (imageArr m c) (boxArr m c) (maskArr m c) s)

variable (hX : ∀ i, ((((textArr m c) i).toReal : ℝ) : EReal) = textArr m c i)
  (hY : ∀ i, ((((imageArr m c) i).toReal : ℝ) : EReal) = imageArr m c i)

include hX hY in
/-- The body's loss of sample `k` at grid point `t` is the loss of sample `8 t + k` of the batch. -/
theorem lossAt_coe (t : Fin cfg0.N) (k : Fin 8) :
    lossAt (F := Ideal) (iblk m c 0 t) (iblk m c 1 t) (iblk m c 2 t) (iblk m c 3 t) k = ((lossOf m c (sampleOf t k) : ℝ) : EReal) := by
  have hl : rowLabel (boxAt (iblk m c 0 t) k) (maskAt (iblk m c 1 t) k) = batchLabel (boxArr m c) (maskArr m c) (sampleOf t k) := by
    funext l
    unfold rowLabel batchLabel
    rw [box_entry, box_entry, box_entry, box_entry, mask_entry]
  unfold lossAt
  rw [sampleLoss_coe _ _ _ _ (fun l d => (textArr m c (ix3 (sampleOf t k) l d)).toReal)
    (fun p d => (imageArr m c (ix3 (sampleOf t k) p d)).toReal)
    (fun l d => (text_entry m c t k l d).trans (hX _).symm) (fun p d => (image_entry m c t k p d).trans (hY _).symm), hl]
  rfl

/-- The sum of the losses of the eight samples of grid point `n`, a real; zero past the grid. -/
def pointSum (n : ℕ) : ℝ := if h : n < cfg0.N then ∑ k, lossOf m c (sampleOf ⟨n, h⟩ k) else 0

include hX hY in
/-- The body's sum over a grid point is the sum of its eight samples' losses. -/
theorem pointLoss_coe (n : ℕ) (h : n < cfg0.N) :
    pointLoss (F := Ideal) (iblk m c 0 ⟨n, h⟩) (iblk m c 1 ⟨n, h⟩) (iblk m c 2 ⟨n, h⟩) (iblk m c 3 ⟨n, h⟩)
      = ((pointSum m c n : ℝ) : EReal) := by
  unfold pointLoss pointSum
  simp only [lossAt_coe m c hX hY, Ideal.scalar_addf_def, ← EReal.coe_add]
  rw [dif_pos h]
  simp only [Fin.sum_univ_eight]

include hX hY in
/-- The running total after grid point `n` is the sum over the points so far. -/
theorem chain_coe : ∀ (n : ℕ) (h : n < cfg0.N),
    chain m c n h (ix2 0 0) = ((∑ t ∈ Finset.range (n + 1), pointSum m c t : ℝ) : EReal)
  | 0, h => by
    unfold chain
    pointwise []
    refine (pointLoss_coe m c hX hY 0 h).trans ?_
    rw [Finset.sum_range_one]
  | n + 1, h => by
    unfold chain
    pointwise []
    rw [chain_coe n, pointLoss_coe m c hX hY (n + 1) h, ← EReal.coe_add, ← Finset.sum_range_succ]

/-- The grid's eight points of eight samples are the sixty-four samples of the batch. -/
theorem sum_points : ∑ t ∈ Finset.range 8, pointSum m c t = ∑ s, lossOf m c s := by
  rw [Finset.sum_range, ← Equiv.sum_comp (finProdFinEquiv (m := 8) (n := 8)) (lossOf m c), Fintype.sum_prod_type]
  refine Finset.sum_congr rfl fun t _ => ?_
  unfold pointSum
  rw [dif_pos (show t.val < cfg0.N from Nat.lt_of_lt_of_eq t.isLt N_0.symm)]
  exact Finset.sum_congr rfl fun k _ => congrArg (lossOf m c) (Fin.ext (Nat.add_comm _ _))

include hX hY in
/-- The kernel's result is the mean of the losses over the batch. -/
theorem result_coe : result m c = fun _ => (((∑ s, lossOf m c s) * (1 / 64) : ℝ) : EReal) := by
  have h := chain_coe m c hX hY 7 (by rw [show cfg0.N = 8 from N_0]; decide)
  rw [sum_points] at h
  funext j
  have hs : shapeCast S_ (total m c) shapeCasts_S1x1_S_ j = total m c (ix2 0 0) :=
    congrArg (total m c) (funext fun a => by fin_cases a <;> exact Subsingleton.elim (α := Fin 1) _ _)
  show shapeCast S_ (total m c) shapeCasts_S1x1_S_ j * Ideal.ofBits .f32 0x3C800000#32 = _
  rw [hs.trans h, ofBits_64th, ← EReal.coe_mul]

end Cert.KernelIdeal.Value

end
-- ==== Proof.RefArrays.lean ====
module

public import proofs.«01_k».proof.Proof.Gen.ReferenceIdeal.Run
public import Idealize.ShloMosaic.Lib.Routing.OpsPair
public import proofs.«01_k».proof.Proof.Spec

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec

/-! ## The reference's arrays, as functions of its arguments -/

/-- A word array of one value. -/
abbrev fillI (t : Shape) (h : S_.BroadcastsInDim t (![] : Fin 0 → Fin t.rank)) (b : BitVec 32) : IVec t 32 :=
  broadcastInDim t ![] h (constantI S_ 32 b)

/-- The floor quotients of the boxes by the patch side. -/
def cells (bb : IVec S64x512x4 32) : IVec S64x512x4 32 :=
  select (andi (cmpi .ne (signi bb) (broadcastInDim S64x512x4 ![] bcast_S_S64x512x4 (signi (constantI S_ 32 72#32))))
      (cmpi .ne (Host.remsi bb (fillI S64x512x4 bcast_S_S64x512x4 72#32)) (fillI S64x512x4 bcast_S_S64x512x4 0#32)))
    (subi (Host.divsi bb (fillI S64x512x4 bcast_S_S64x512x4 72#32)) (fillI S64x512x4 bcast_S_S64x512x4 1#32))
    (Host.divsi bb (fillI S64x512x4 bcast_S_S64x512x4 72#32))

/-- The labels of the text rows, from the quotients `v` and the masks. -/
def labels (v : IVec S64x512x4 32) (mk : IVec S64x512 32) : IVec S64x512 32 :=
  select (id (cmpi .ne mk (fillI S64x512 bcast_S_S64x512 0#32)))
    (select (andi
        (cmpi .eq (shapeCast _ (extractStridedSlice S64x512x1 ![0, 0, 0] v slices_S64x512x4_S64x512x1_0_0_0) shapeCasts_S64x512x1_S64x512)
          (shapeCast _ (extractStridedSlice S64x512x1 ![0, 0, 2] v slices_S64x512x4_S64x512x1_0_0_2) shapeCasts_S64x512x1_S64x512))
        (cmpi .eq (shapeCast _ (extractStridedSlice S64x512x1 ![0, 0, 1] v slices_S64x512x4_S64x512x1_0_0_1) shapeCasts_S64x512x1_S64x512)
          (shapeCast _ (extractStridedSlice S64x512x1 ![0, 0, 3] v slices_S64x512x4_S64x512x1_0_0_3) shapeCasts_S64x512x1_S64x512)))
      (addi (muli (shapeCast _ (extractStridedSlice S64x512x1 ![0, 0, 1] v slices_S64x512x4_S64x512x1_0_0_1) shapeCasts_S64x512x1_S64x512)
          (fillI S64x512 bcast_S_S64x512 14#32))
        (shapeCast _ (extractStridedSlice S64x512x1 ![0, 0, 0] v slices_S64x512x4_S64x512x1_0_0_0) shapeCasts_S64x512x1_S64x512))
      (fillI S64x512 bcast_S_S64x512 4294967196#32))
    (fillI S64x512 bcast_S_S64x512 4294967196#32)

/-- The segments of the text rows: the label, or the spare segment 196 for a negative one. -/
def segments (lab : IVec S64x512 32) : IVec S64x512 32 :=
  select (cmpi .sge lab (fillI S64x512 bcast_S_S64x512 0#32)) lab (fillI S64x512 bcast_S_S64x512 196#32)

/-- The sample numbers, down a column. -/
def samples : IVec S64x1 32 := broadcastInDim S64x1 ![0] bcast_S64_S64x1_0 (iotaInDim S64 32 0)

/-- The pairs (sample, segment) at which the text rows are added, negative words counted from the end. -/
def pairs (seg : IVec S64x512 32) : IVec S64x512x2 32 :=
  concatenate S64x512x2 2
    [⟨S64x512x1, (broadcastInDim S64x512x1 ![0, 1] bcast_S64x512_S64x512x1_0_1
        (broadcastInDim S64x512 ![0, 1] bcast_S64x1_S64x512_0_1
          (select (cmpi .slt samples (fillI S64x1 bcast_S_S64x1 0#32)) (addi samples (fillI S64x1 bcast_S_S64x1 64#32)) samples)))⟩,
      ⟨S64x512x1, (broadcastInDim S64x512x1 ![0, 1] bcast_S64x512_S64x512x1_0_1
        (select (cmpi .slt seg (fillI S64x512 bcast_S_S64x512 0#32)) (addi seg (fillI S64x512 bcast_S_S64x512 197#32)) seg))⟩]
    concatenates_S64x512x1_S64x512x1_S64x512x2_d2

/-- The segment sums of the text rows. -/
def sums (x : FVec Ideal S64x512x768 .f32) (pr : IVec S64x512x2 32) : FVec Ideal S64x197x768 .f32 :=
  Host.scatterAdd scatter_S64x197x768_S64x512x2_S64x512x768_2_01_01_2
    (broadcastInDim S64x197x768 ![] bcast_S_S64x197x768 (constant S_ .f32 0x00000000#32)) pr x

/-- The number of text rows of each segment. -/
def counts (pr : IVec S64x512x2 32) : FVec Ideal S64x197 .f32 :=
  Host.scatterAdd scatter_S64x197_S64x512x2_S64x512_n_01_01_2
    (broadcastInDim S64x197 ![] bcast_S_S64x197 (constant S_ .f32 0x00000000#32)) pr
    (broadcastInDim S64x512 ![] bcast_S_S64x512 (constant S_ .f32 0x3F800000#32))

/-- The segment means, without the spare segment. -/
def means (su : FVec Ideal S64x197x768 .f32) (co : FVec Ideal S64x197 .f32) : FVec Ideal S64x196x768 .f32 :=
  Host.divf (extractStridedSlice S64x196x768 ![0, 0, 0] su slices_S64x197x768_S64x196x768_0_0_0)
    (broadcastInDim S64x196x768 ![0, 1, 2] bcast_S64x196x1_S64x196x768_0_1_2
      (maximumf (broadcastInDim S64x196x1 ![0, 1] bcast_S64x196_S64x196x1_0_1
          (extractStridedSlice S64x196 ![0, 0] co slices_S64x197_S64x196_0_0))
        (broadcastInDim S64x196x1 ![] bcast_S_S64x196x1 (constant S_ .f32 0x3F800000#32))))

/-- The batched products of two arrays of rows. -/
def products (a b : FVec Ideal S64x196x768 .f32) : FVec Ideal S64x196x196 .f32 :=
  Host.dotGeneral dot_S64x196x768_S64x196x768_S64x196x196_2_2_1_1_0_0 none a b

/-- Logits less their row's maximum. -/
def shifted (z : FVec Ideal S64x196x196 .f32) : FVec Ideal S64x196x196 .f32 :=
  subf z (broadcastInDim S64x196x196 ![0, 1, 2] bcast_S64x196x1_S64x196x196_0_1_2
    (broadcastInDim S64x196x1 ![0, 1] bcast_S64x196_S64x196x1_0_1
      (maximumf (broadcastInDim S64x196 ![] bcast_S_S64x196 (constant S_ .f32 0xFF800000#32))
        (Host.reduce FloatOps.maximumf z (constant S_ .f32 0xFF800000#32) reducesTo_S64x196x196_S64x196_d2 h_S_))))

/-- The logarithms of the softmax, from the shifted logits. -/
def logProbs (z : FVec Ideal S64x196x196 .f32) : FVec Ideal S64x196x196 .f32 :=
  subf z (broadcastInDim S64x196x196 ![0, 1, 2] bcast_S64x196x1_S64x196x196_0_1_2
    (Host.log (broadcastInDim S64x196x1 ![0, 1] bcast_S64x196_S64x196x1_0_1
      (Host.reduceAdd (Host.exp z) (constant S_ .f32 0x00000000#32) reducesTo_S64x196x196_S64x196_d2 h_S_))))

/-- The target numbers, one to a row. -/
def targetRow : IVec S1x196x1 32 := broadcastInDim S1x196x1 ![1] bcast_S196_S1x196x1_1 (iotaInDim S196 32 0)

/-- The target numbers, negative words counted from the end. -/
def targets : IVec S196x1x1 32 :=
  shapeCast _ (select (cmpi .slt targetRow (fillI S1x196x1 bcast_S_S1x196x1 0#32))
    (addi targetRow (fillI S1x196x1 bcast_S_S1x196x1 196#32)) targetRow) shapeCasts_S1x196x1_S196x1x1

/-- The entries at the targets `g`. -/
def picked (z : FVec Ideal S64x196x196 .f32) (g : IVec S196x1x1 32) : FVec Ideal S64x196x1 .f32 :=
  Host.gather gather_S64x196x196_S196x1x1_S64x196x1_0_2_1_0_2_2_6411 z g

/-- The cross entropy: the mean of the picked entries `w`, negated, an out-of-range target replaced. -/
def crossEntropy (w : FVec Ideal S64x196x1 .f32) (g : IVec S196x1x1 32) : FVec Ideal S_ .f32 :=
  Host.negf (Host.divf (Host.reduceAdd (select
      (broadcastInDim S64x196x1 ![1, 2] bcast_S196x1_S64x196x1_1_2
        (Host.reduce IntOp.andi (andi (cmpi .sge g (fillI S196x1x1 bcast_S_S196x1x1 0#32))
            (cmpi .sle g (broadcastInDim S196x1x1 ![0, 1, 2] bcast_S1x1x1_S196x1x1_0_1_2
              (broadcastInDim S1x1x1 ![2] bcast_S1_S1x1x1_2 (constantI S1 32 195#32)))))
          (constantI S_ 1 1#1) reducesTo_S196x1x1_S196x1_d2 h_S_))
      w (broadcastInDim S64x196x1 ![] bcast_S_S64x196x1 (constant S_ .f32 0x7FC00000#32)))
    (constant S_ .f32 0x00000000#32) reducesTo_S64x196x1_S_d0_1_2 h_S_) (constant S_ .f32 0x46440000#32))

/-- The segment means of the batch. -/
def patchMeans (x : FVec Ideal S64x512x768 .f32) (bb : IVec S64x512x4 32) (mk : IVec S64x512 32) : FVec Ideal S64x196x768 .f32 :=
  means (sums x (pairs (segments (labels (cells bb) mk)))) (counts (pairs (segments (labels (cells bb) mk))))

/-- The cross entropy of an array of logits. -/
def entropyOf (z : FVec Ideal S64x196x196 .f32) : FVec Ideal S_ .f32 :=
  crossEntropy (picked (logProbs (shifted z)) targets) targets

/-- The reference's result: the mean of the two directions' cross entropies. -/
def refLoss (x : FVec Ideal S64x512x768 .f32) (y : FVec Ideal S64x196x768 .f32) (bb : IVec S64x512x4 32) (mk : IVec S64x512 32) :
    FVec Ideal S_ .f32 :=
  Host.divf (addf (entropyOf (products y (patchMeans x bb mk))) (entropyOf (products (patchMeans x bb mk) y)))
    (constant S_ .f32 0x40000000#32)

/-- The whole run: the result buffer ends at the reference's result, and the arguments are unchanged. -/
theorem run_refLoss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81)
        = refLoss (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.ReferenceIdeal.Value

end
-- ==== Proof.RefValue.lean ====
module

public import proofs.«01_k».proof.Proof.RefArrays

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec

/-! ## The labels and the index pairs -/

/-- The reference's floor quotients are the cells. -/
theorem cells_apply (bb : IVec S64x512x4 32) (s : Fin 64) (l : Fin 512) (r : Fin 4) :
    cells bb (ix3 s l r) = cell (bb (ix3 s l r)) := by
  pointwise [cells]
  exact host_cell _ _

/-- The reference's labels are the labels of the batch. -/
theorem labels_apply (bb : IVec S64x512x4 32) (mk : IVec S64x512 32) (s : Fin 64) (l : Fin 512) :
    labels (cells bb) mk (ix2 s l) = batchLabel bb mk s l := by
  unfold labels
  rw [id_eq]
  pointwise []
  simp only [cells_apply]
  exact host_label _ _ _ _ _

/-- The word of a small number, read signed. -/
theorem toInt_small (n : Nat) (h : n < 1000) : (BitVec.ofNat 32 n).toInt = (n : Int) := by
  rw [BitVec.toInt_eq_toNat_cond, BitVec.toNat_ofNat, Nat.mod_eq_of_lt (by omega), if_pos (by omega)]

/-- A word read signed is a small number exactly when it is that number's word. -/
theorem toInt_eq_small (b : BitVec 32) (n : Nat) (h : n < 1000) : b.toInt = (n : Int) ↔ b = BitVec.ofNat 32 n := by
  rw [← toInt_small n h]; exact BitVec.toInt_inj

/-- A non-negative word counted from the end when negative is itself. -/
theorem wrap_nonneg (b k : BitVec 32) (h : 0 ≤ b.toInt) : Scalar.select (IntOp.cmpi .slt b 0#32) (IntOp.addi b k) b = b := by
  rw [WordCmp.cmpi_slt_eq, show (0#32 : BitVec 32).toInt = 0 from rfl, decide_eq_false (by omega)]; rfl

/-- A segment is never negative, and is patch `q` exactly when the label is. -/
theorem segment_word (b : BitVec 32) :
    0 ≤ (Scalar.select (IntOp.cmpi .sge b 0#32) b 196#32).toInt
      ∧ ∀ q : Fin 196, Scalar.select (IntOp.cmpi .sge b 0#32) b 196#32 = BitVec.ofNat 32 q.val ↔ b = BitVec.ofNat 32 q.val := by
  rw [WordCmp.cmpi_sge_eq, show (0#32 : BitVec 32).toInt = 0 from rfl]
  by_cases h : 0 ≤ b.toInt
  · rw [decide_eq_true h]; exact ⟨h, fun q => Iff.rfl⟩
  · rw [decide_eq_false h]
    refine ⟨(by decide : (0 : Int) ≤ (196#32 : BitVec 32).toInt), fun q => ⟨fun e => ?_, fun e => ?_⟩⟩
    · have e' := congrArg BitVec.toInt (show 196#32 = BitVec.ofNat 32 q.val from e)
      rw [toInt_small 196 (by omega), toInt_small q.val (by omega)] at e'
      omega
    · rw [e, toInt_small q.val (by omega)] at h; omega

/-- The first component of the pair of row `(s, l)` is the sample number. -/
theorem pairs_sample (seg : IVec S64x512 32) (s : Fin 64) (l : Fin 512) : (pairs seg (ix3 s l 0)).toInt = (s.val : Int) := by
  have h : pairs seg (ix3 s l 0)
      = Scalar.select (IntOp.cmpi .slt (BitVec.ofNat 32 s.val) 0#32) (IntOp.addi (BitVec.ofNat 32 s.val) 64#32) (BitVec.ofNat 32 s.val) := by
    pointwise [pairs, samples]
  rw [h, wrap_nonneg _ _ (by rw [toInt_small _ (by omega)]; omega), toInt_small _ (by omega)]

/-- The second component of the pair of row `(s, l)` is patch `q` exactly when the row's label is. -/
theorem pairs_segment (lab : IVec S64x512 32) (s : Fin 64) (l : Fin 512) (q : Fin 196) :
    (pairs (segments lab) (ix3 s l 1)).toInt = (q.val : Int) ↔ lab (ix2 s l) = BitVec.ofNat 32 q.val := by
  have h : pairs (segments lab) (ix3 s l 1)
      = Scalar.select (IntOp.cmpi .slt (segments lab (ix2 s l)) 0#32) (IntOp.addi (segments lab (ix2 s l)) 197#32) (segments lab (ix2 s l)) := by
    pointwise [pairs, samples]
  have h' : segments lab (ix2 s l) = Scalar.select (IntOp.cmpi .sge (lab (ix2 s l)) 0#32) (lab (ix2 s l)) 196#32 := by
    pointwise [segments]
  have hs := segment_word (lab (ix2 s l))
  rw [← h'] at hs
  rw [h, wrap_nonneg _ _ hs.1, toInt_eq_small _ _ (by omega)]
  exact hs.2 q

/-! ## The two scatters -/

/-- A text row's entry lands at `(s, q, d)` exactly when its pair is `(s, q)` and its feature is `d`. -/
theorem sums_lands (idx : IVec S64x512x2 32) (s' : Fin 64) (l : Fin 512) (d' : Fin 768) (s : Fin 64) (q : Fin 197) (d : Fin 768) :
    scatter_S64x197x768_S64x512x2_S64x512x768_2_01_01_2.resultIdx? (ix3 s' l d') idx = some (ix3 s q d)
      ↔ (idx (ix3 s' l 0)).toInt = (s.val : Int) ∧ (idx (ix3 s' l 1)).toInt = (q.val : Int) ∧ d' = d := by
  have st : ∀ (a : Fin 3) (b : Fin 2) (ha : a ∈ scatter_S64x197x768_S64x512x2_S64x512x768_2_01_01_2.scatterDimsToOperandDims)
      (hb : b.val = List.idxOf a scatter_S64x197x768_S64x512x2_S64x512x768_2_01_01_2.scatterDimsToOperandDims),
      scatter_S64x197x768_S64x512x2_S64x512x768_2_01_01_2.start (ix3 s' l d') idx a = (idx (ix3 s' l b)).toInt := by
    intro a b ha hb
    unfold ScatterDims.start
    rw [dif_pos ha]
    refine congrArg (fun i => (idx i).toInt) (funext fun x => Fin.ext ?_)
    match x with
    | ⟨0, _⟩ => rfl
    | ⟨1, _⟩ => rfl
    | ⟨2, _⟩ => exact hb.symm
  rw [Routing.resultIdx?_eq_some]
  constructor
  · intro h
    have h0 := h 0; have h1 := h 1; have h2 := h 2
    rw [st 0 0 (by decide) (by decide)] at h0
    rw [st 1 1 (by decide) (by decide)] at h1
    refine ⟨?_, ?_, Fin.ext ?_⟩
    · exact (add_zero _).symm.trans h0
    · exact (add_zero _).symm.trans h1
    · exact Int.ofNat.inj ((zero_add _).symm.trans h2)
  · rintro ⟨h0, h1, rfl⟩ a
    match a with
    | ⟨0, _⟩ => exact (congrArg (· + (0 : Int)) (st 0 0 (by decide) (by decide))).trans ((add_zero _).trans h0)
    | ⟨1, _⟩ => exact (congrArg (· + (0 : Int)) (st 1 1 (by decide) (by decide))).trans ((add_zero _).trans h1)
    | ⟨2, _⟩ => exact zero_add _

/-- A text row is counted at `(s, q)` exactly when its pair is `(s, q)`. -/
theorem counts_lands (idx : IVec S64x512x2 32) (s' : Fin 64) (l : Fin 512) (s : Fin 64) (q : Fin 197) :
    scatter_S64x197_S64x512x2_S64x512_n_01_01_2.resultIdx? (ix2 s' l) idx = some (ix2 s q)
      ↔ (idx (ix3 s' l 0)).toInt = (s.val : Int) ∧ (idx (ix3 s' l 1)).toInt = (q.val : Int) := by
  have st : ∀ (a b : Fin 2) (ha : a ∈ scatter_S64x197_S64x512x2_S64x512_n_01_01_2.scatterDimsToOperandDims)
      (hb : b.val = List.idxOf a scatter_S64x197_S64x512x2_S64x512_n_01_01_2.scatterDimsToOperandDims),
      scatter_S64x197_S64x512x2_S64x512_n_01_01_2.start (ix2 s' l) idx a = (idx (ix3 s' l b)).toInt := by
    intro a b ha hb
    unfold ScatterDims.start
    rw [dif_pos ha]
    refine congrArg (fun i => (idx i).toInt) (funext fun x => Fin.ext ?_)
    match x with
    | ⟨0, _⟩ => rfl
    | ⟨1, _⟩ => rfl
    | ⟨2, _⟩ => exact hb.symm
  rw [Routing.resultIdx?_eq_some]
  constructor
  · intro h
    have h0 := h 0; have h1 := h 1
    rw [st 0 0 (by decide) (by decide)] at h0
    rw [st 1 1 (by decide) (by decide)] at h1
    exact ⟨(add_zero _).symm.trans h0, (add_zero _).symm.trans h1⟩
  · rintro ⟨h0, h1⟩ a
    match a with
    | ⟨0, _⟩ => exact (congrArg (· + (0 : Int)) (st 0 0 (by decide) (by decide))).trans ((add_zero _).trans h0)
    | ⟨1, _⟩ => exact (congrArg (· + (0 : Int)) (st 1 1 (by decide) (by decide))).trans ((add_zero _).trans h1)

/-- The segment sum of patch `q` is the sum of the text rows whose label is `q`. -/
theorem sums_apply (x : FVec Ideal S64x512x768 .f32) (lab : IVec S64x512 32) (s : Fin 64) (q : Fin 196) (d : Fin 768) :
    sums x (pairs (segments lab)) (ix3 s ⟨q.val, by omega⟩ d) = ∑ l ∈ hits (fun l => lab (ix2 s l)) q, x (ix3 s l d) := by
  unfold sums Host.scatterAdd
  rw [Ideal.hostScatterAdd_def]
  refine (congrArg (· + _) (Ideal.ofBits_zero_f32 : _ = (0 : EReal))).trans ((zero_add _).trans ?_)
  have key : ∀ (s' : Fin 64) (l : Fin 512) (d' : Fin 768),
      scatter_S64x197x768_S64x512x2_S64x512x768_2_01_01_2.resultIdx? (ix3 s' l d') (pairs (segments lab))
          = some (ix3 s ⟨q.val, by omega⟩ d)
        ↔ s' = s ∧ lab (ix2 s' l) = BitVec.ofNat 32 q.val ∧ d' = d := by
    intro s' l d'
    rw [sums_lands, pairs_sample, pairs_segment lab s' l q]
    exact and_congr_left' (by rw [Nat.cast_inj, Fin.ext_iff])
  refine Finset.sum_bij' (fun j _ => j 1) (fun l _ => ix3 s l d) ?_ ?_ (fun j hj => ?_) (fun l _ => rfl) (fun j hj => ?_)
  · intro j hj
    obtain ⟨s', l, d', rfl⟩ : ∃ a b c, j = ix3 a b c := ⟨_, _, _, eq_ix3 j⟩
    obtain ⟨rfl, h1, rfl⟩ := (key s' l d').mp (Finset.mem_filter.mp hj).2
    exact Finset.mem_filter.mpr ⟨Finset.mem_univ _, h1⟩
  · intro l hl
    exact Finset.mem_filter.mpr ⟨Finset.mem_univ _, (key s l d).mpr ⟨rfl, (Finset.mem_filter.mp hl).2, rfl⟩⟩
  all_goals
    obtain ⟨s', l, d', rfl⟩ : ∃ a b c, j = ix3 a b c := ⟨_, _, _, eq_ix3 j⟩
    obtain ⟨rfl, _, rfl⟩ := (key s' l d').mp (Finset.mem_filter.mp hj).2
    rfl

/-- The count of patch `q` is the number of text rows whose label is `q`. -/
theorem counts_apply (lab : IVec S64x512 32) (s : Fin 64) (q : Fin 196) :
    counts (pairs (segments lab)) (ix2 s ⟨q.val, by omega⟩) = (((hits (fun l => lab (ix2 s l)) q).card : ℝ) : EReal) := by
  unfold counts Host.scatterAdd
  rw [Ideal.hostScatterAdd_def]
  refine (congrArg (· + _) (Ideal.ofBits_zero_f32 : _ = (0 : EReal))).trans ((zero_add _).trans ?_)
  have key : ∀ (s' : Fin 64) (l : Fin 512),
      scatter_S64x197_S64x512x2_S64x512_n_01_01_2.resultIdx? (ix2 s' l) (pairs (segments lab)) = some (ix2 s ⟨q.val, by omega⟩)
        ↔ s' = s ∧ lab (ix2 s' l) = BitVec.ofNat 32 q.val := by
    intro s' l
    rw [counts_lands, pairs_sample, pairs_segment lab s' l q]
    exact and_congr_left' (by rw [Nat.cast_inj, Fin.ext_iff])
  have hc : (((hits (fun l => lab (ix2 s l)) q).card : ℝ) : EReal) = ∑ l ∈ hits (fun l => lab (ix2 s l)) q, ((1 : ℝ) : EReal) := by
    rw [← coe_sum, Finset.sum_const, nsmul_eq_mul, mul_one]
  rw [hc]
  refine Finset.sum_bij' (fun j _ => j 1) (fun l _ => ix2 s l) ?_ ?_ (fun j hj => ?_) (fun l _ => rfl)
    (fun j _ => Ideal.ofBits_one_f32)
  · intro j hj
    obtain ⟨s', l, rfl⟩ : ∃ a b, j = ix2 a b := ⟨_, _, eq_ix2 j⟩
    obtain ⟨rfl, h1⟩ := (key s' l).mp (Finset.mem_filter.mp hj).2
    exact Finset.mem_filter.mpr ⟨Finset.mem_univ _, h1⟩
  · intro l hl
    exact Finset.mem_filter.mpr ⟨Finset.mem_univ _, (key s l).mpr ⟨rfl, (Finset.mem_filter.mp hl).2⟩⟩
  · obtain ⟨s', l, rfl⟩ : ∃ a b, j = ix2 a b := ⟨_, _, eq_ix2 j⟩
    obtain ⟨rfl, _⟩ := (key s' l).mp (Finset.mem_filter.mp hj).2
    rfl

/-! ## The logits -/

/-- The segment means are the patch means of the specification. -/
theorem patchMeans_coe (x : FVec Ideal S64x512x768 .f32) (bb : IVec S64x512x4 32) (mk : IVec S64x512 32)
    (hX : ∀ i, (((x i).toReal : ℝ) : EReal) = x i) (s : Fin 64) (q : Fin 196) (d : Fin 768) :
    patchMeans x bb mk (ix3 s q d)
      = ((patchMean (batchLabel bb mk s) (fun l d => (x (ix3 s l d)).toReal) q d : ℝ) : EReal) := by
  have hm : ∀ (su : FVec Ideal S64x197x768 .f32) (co : FVec Ideal S64x197 .f32), means su co (ix3 s q d)
      = Ideal.div (su (ix3 s ⟨q.val, by omega⟩ d)) (max (co (ix2 s ⟨q.val, by omega⟩)) ((1 : ℝ) : EReal)) := by
    intro su co
    pointwise [means]
    rfl
  have hl : (fun l => labels (cells bb) mk (ix2 s l)) = batchLabel bb mk s := funext fun l => labels_apply bb mk s l
  unfold patchMeans
  rw [hm, sums_apply, counts_apply, hl, Finset.sum_congr rfl fun l _ => (hX (ix3 s l d)).symm, ← coe_sum, ← EReal.coe_strictMono.monotone.map_max,
    Ideal.div_coe (by positivity), ← EReal.coe_mul, mul_one_div]
  rfl

/-- The first direction's logits are the logits of the batch. -/
theorem image_text_coe (x : FVec Ideal S64x512x768 .f32) (y : FVec Ideal S64x196x768 .f32) (bb : IVec S64x512x4 32) (mk : IVec S64x512 32)
    (hX : ∀ i, (((x i).toReal : ℝ) : EReal) = x i) (hY : ∀ i, (((y i).toReal : ℝ) : EReal) = y i) (s : Fin 64) (p q : Fin 196) :
    products y (patchMeans x bb mk) (ix3 s p q) = ((batchLogit x y bb mk s p q : ℝ) : EReal) := by
  have hp : ∀ a b : FVec Ideal S64x196x768 .f32, products a b (ix3 s p q) = ∑ d : Fin 768, a (ix3 s p d) * b (ix3 s q d) := by
    intro a b
    pointwise [products]
  rw [hp, batchLogit, logit, coe_sum]
  exact Finset.sum_congr rfl fun d _ => by rw [patchMeans_coe x bb mk hX, EReal.coe_mul, hY]

/-- The second direction's logits are the first's, transposed. -/
theorem text_image (a b : FVec Ideal S64x196x768 .f32) (s : Fin 64) (p q : Fin 196) :
    products a b (ix3 s p q) = products b a (ix3 s q p) := by
  have hp : ∀ (a b : FVec Ideal S64x196x768 .f32) (p q : Fin 196), products a b (ix3 s p q) = ∑ d : Fin 768, a (ix3 s p d) * b (ix3 s q d) := by
    intro a b p q
    pointwise [products]
  rw [hp, hp]
  exact Finset.sum_congr rfl fun d _ => mul_comm _ _

end Cert.ReferenceIdeal.Value

end
-- ==== Proof.RefLoss.lean ====
module

public import proofs.«01_k».proof.Proof.RefValue

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Spec

/-! ## The cross entropy -/

/-- The target of patch `p` is its number. -/
theorem targets_apply (p : Fin 196) : targets (ix3 p 0 0) = BitVec.ofNat 32 p.val := by
  have h : targets (ix3 p 0 0)
      = Scalar.select (IntOp.cmpi .slt (BitVec.ofNat 32 p.val) 0#32) (IntOp.addi (BitVec.ofNat 32 p.val) 196#32) (BitVec.ofNat 32 p.val) := by
    pointwise [targets, targetRow]
  rw [h, wrap_nonneg _ _ (by rw [toInt_small _ (by omega)]; omega)]

/-- The entry picked for patch `p` is the row's diagonal entry. -/
theorem picked_apply (z : FVec Ideal S64x196x196 .f32) (s : Fin 64) (p : Fin 196) :
    picked z targets (ix3 s p 0) = z (ix3 s p p) := by
  unfold picked Host.gather
  refine congrArg z (funext fun a => Fin.ext ?_)
  have hi : (targets (ix3 p 0 0)).toInt.toNat = p.val := by
    rw [targets_apply, toInt_small _ (by omega), Int.toNat_natCast]
  have st : gather_S64x196x196_S196x1x1_S64x196x1_0_2_1_0_2_2_6411.start (ix3 s p 0) targets (2 : Fin 3) = p.val := by
    unfold GatherDims.start
    rw [dif_pos (show (2 : Fin 3) ∈ gather_S64x196x196_S196x1x1_S64x196x1_0_2_1_0_2_2_6411.startIndexMap from List.mem_singleton.mpr rfl)]
    have hsi : gather_S64x196x196_S196x1x1_S64x196x1_0_2_1_0_2_2_6411.siIdx (ix3 s p 0)
        ⟨List.idxOf (2 : Fin 3) gather_S64x196x196_S196x1x1_S64x196x1_0_2_1_0_2_2_6411.startIndexMap,
          List.idxOf_lt_length_iff.2 (List.mem_singleton.mpr rfl)⟩ = ix3 p 0 0 := by
      funext b; refine Fin.ext ?_
      match b with
      | ⟨0, _⟩ => rfl
      | ⟨1, _⟩ => rfl
      | ⟨2, _⟩ => rfl
    rw [hsi, hi]
    exact min_eq_left (show p.val ≤ 195 by omega)
  match a with
  | ⟨0, _⟩ => exact (show 0 + 0 + s.val = s.val by omega)
  | ⟨1, _⟩ => exact (show 0 + p.val + 0 = p.val by omega)
  | ⟨2, _⟩ => exact (congrArg (· + 0 + 0) st).trans (show p.val + 0 + 0 = p.val by omega)

/-- A shifted logit is the logit less the maximum of its row. -/
theorem shifted_apply (z : FVec Ideal S64x196x196 .f32) (s : Fin 64) (p q : Fin 196) :
    shifted z (ix3 s p q) = z (ix3 s p q)
      - max (Ideal.ofBits .f32 0xFF800000#32) (Finset.univ.fold max (Ideal.ofBits .f32 0xFF800000#32) fun k => z (ix3 s p k)) := by
  pointwise [shifted]

/-- The logarithm of the softmax, from the shifted logits. -/
theorem logProbs_apply (w : FVec Ideal S64x196x196 .f32) (s : Fin 64) (p q : Fin 196) :
    logProbs w (ix3 s p q) = w (ix3 s p q) - Ideal.log (∑ k : Fin 196, Ideal.exp (w (ix3 s p k))) := by
  pointwise [logProbs]

/-- The logarithms of the softmax of real logits `M`. -/
theorem logProbs_coe (z : FVec Ideal S64x196x196 .f32) (M : Fin 64 → Fin 196 → Fin 196 → ℝ)
    (hz : ∀ s p q, z (ix3 s p q) = ((M s p q : ℝ) : EReal)) (s : Fin 64) (p q : Fin 196) :
    logProbs (shifted z) (ix3 s p q) = ((M s p q - lse (M s p) : ℝ) : EReal) := by
  obtain ⟨a, ha⟩ := fold_max_coe (M s p)
  have hs : ∀ k : Fin 196, shifted z (ix3 s p k) = (M s p k : EReal) - (a : EReal) := by
    intro k
    rw [shifted_apply, hz, ofBits_neg_inf, max_eq_right bot_le, ← ofBits_neg_inf, funext fun k => hz s p k, ha]
  rw [logProbs_apply, Finset.sum_congr rfl fun k _ => congrArg Ideal.exp (hs k), log_sum_exp_coe, hs, ← EReal.coe_sub, ← EReal.coe_sub]
  congr 1
  ring

/-- The cross entropy of picked entries `w` at targets `g` within range. -/
theorem crossEntropy_apply (w : FVec Ideal S64x196x1 .f32) (g : IVec S196x1x1 32)
    (hg : ∀ p : Fin 196, IntOp.andi (IntOp.cmpi .sge (g (ix3 p 0 0)) 0#32) (IntOp.cmpi .sle (g (ix3 p 0 0)) 195#32) = 1#1) (i : S_.Idx) :
    crossEntropy w g i = -Ideal.div (∑ s : Fin 64, ∑ p : Fin 196, w (ix3 s p 0)) ((12544 : ℝ) : EReal) := by
  pointwise [crossEntropy]
  rw [ofBits_12544]
  refine congrArg (fun t => -Ideal.div t _) (Finset.sum_congr rfl fun s _ => Finset.sum_congr rfl fun p _ => ?_)
  rw [Fin.sum_univ_one, Finset.univ_unique, Finset.fold_singleton]
  refine (congrArg (fun b => Scalar.select (IntOp.andi b 1#1) (w (ix3 s p 0)) _) (hg p)).trans ?_
  rfl

/-- The cross entropy of real logits `M`. -/
theorem entropyOf_coe (z : FVec Ideal S64x196x196 .f32) (M : Fin 64 → Fin 196 → Fin 196 → ℝ)
    (hz : ∀ s p q, z (ix3 s p q) = ((M s p q : ℝ) : EReal)) (i : S_.Idx) :
    entropyOf z i = ((-((∑ s, ∑ p, (M s p p - lse (M s p))) * (1 / 12544)) : ℝ) : EReal) := by
  have hc : ∀ w : FVec Ideal S64x196x1 .f32, crossEntropy w targets i
      = -Ideal.div (∑ s : Fin 64, ∑ p : Fin 196, w (ix3 s p 0)) ((12544 : ℝ) : EReal) := by
    refine fun w => crossEntropy_apply w targets (fun p => ?_) i
    rw [targets_apply, WordCmp.cmpi_sge_eq, WordCmp.cmpi_sle_eq, show (0#32 : BitVec 32).toInt = 0 from rfl,
      toInt_small _ (by omega), show (195#32 : BitVec 32).toInt = 195 from rfl, decide_eq_true (by omega), decide_eq_true (by omega)]
    rfl
  unfold entropyOf
  rw [hc, Finset.sum_congr rfl fun s _ => Finset.sum_congr rfl fun p _ => (picked_apply _ s p).trans (logProbs_coe z M hz s p p)]
  simp only [← coe_sum]
  rw [Ideal.div_coe (by norm_num), ← EReal.coe_mul, ← EReal.coe_neg]

/-- The reference's result is the mean of the samples' losses. -/
theorem refLoss_coe (x : FVec Ideal S64x512x768 .f32) (y : FVec Ideal S64x196x768 .f32) (bb : IVec S64x512x4 32) (mk : IVec S64x512 32)
    (hX : ∀ i, (((x i).toReal : ℝ) : EReal) = x i) (hY : ∀ i, (((y i).toReal : ℝ) : EReal) = y i) :
    refLoss x y bb mk = fun _ => (((∑ s, Cert.Spec.sampleLoss (batchLogit x y bb mk s)) * (1 / 64) : ℝ) : EReal) := by
  funext i
  show Ideal.div (entropyOf _ i + entropyOf _ i) (Ideal.ofBits .f32 0x40000000#32) = _
  rw [entropyOf_coe _ (batchLogit x y bb mk) (image_text_coe x y bb mk hX hY),
    entropyOf_coe _ (fun s p q => batchLogit x y bb mk s q p) fun s p q => (text_image _ _ s p q).trans (image_text_coe x y bb mk hX hY s q p),
    ofBits_two, Ideal.div_coe (by norm_num), ← EReal.coe_add, ← EReal.coe_mul, loss_mean]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.KernelValue
public import proofs.«01_k».proof.Proof.RefLoss
public import Idealize.ShloMosaic.Init

@[expose] public section

noncomputable section

namespace Cert.Proof

open Idealize.ShloMosaic Idealize.SL.Sem Cert.Kernel

/-- The broadcasts of the precondition are well formed. -/
theorem finite_facts : Cert.Pre_finite.Facts := ⟨by decide, by decide⟩

/-- An entry of absolute value below infinity is a real. -/
theorem real_of_bit (x : EReal) (h : Ideal.cmp .olt (max x (-x)) (Ideal.ofBits .f32 0x7F800000#32) = 1#1) : ((x.toReal : ℝ) : EReal) = x := by
  rw [Cert.Spec.ofBits_inf] at h
  refine Cert.Spec.coe_toReal_of_abs_lt (not_le.mp fun hn => ?_)
  have h' : BitVec.ofBool (decide (max x (-x) < ⊤)) = 1#1 := h
  rw [decide_eq_false (not_lt.mpr hn)] at h'
  exact absurd h' (by decide)

/-- The precondition makes every entry of the text and image arrays a real. -/
theorem real_entries (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    (∀ i, (((Cert.KernelIdeal.Value.textArr m c i).toReal : ℝ) : EReal) = Cert.KernelIdeal.Value.textArr m c i)
      ∧ ∀ i, (((Cert.KernelIdeal.Value.imageArr m c i).toReal : ℝ) : EReal) = Cert.KernelIdeal.Value.imageArr m c i :=
  ⟨fun i => real_of_bit _ (congrFun (h c).1 i), fun i => real_of_bit _ (congrFun (h c).2 i)⟩

/-- The reference's frame: it runs to completion, its arguments unchanged and its semaphores at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Under the precondition the kernel's loss and the reference's loss are the same extended real. -/
theorem same_loss : Cert.algebraic_KernelIdeal_ReferenceIdeal_pre_finite (hKernelIdeal := Cert.KernelIdeal.Gen.facts)
    (hReferenceIdeal := Cert.ReferenceIdeal.Gen.facts) (hPre_finite := finite_facts) := by
  intro m g m' g' hp hm
  refine ⟨fun c => Cert.KernelIdeal.Value.result m c, Cert.KernelIdeal.Value.run m g,
    (θ_run Cert.ReferenceIdeal.defs _ _).mono (fun r h c => ⟨(h c).1.trans ?_, (h c).2⟩) (Cert.ReferenceIdeal.Value.run_refLoss m' g')⟩
  obtain ⟨h0, h1, h2, h3⟩ := hm c
  obtain ⟨hX, hY⟩ := real_entries m hp c
  rw [h0, h1, h2, h3]
  exact (Cert.ReferenceIdeal.Value.refLoss_coe _ _ _ _ hX hY).trans (Cert.KernelIdeal.Value.result_coe m c hX hY).symm

/-- The kernel, its exact-arithmetic form and the reference run to completion leaving their arguments unchanged, the
    constant named `inv_P` is the real 1/196, and for finite embeddings the kernel's loss is the reference's. -/
theorem claim : Cert.Claim := ⟨Cert.Kernel.Gen.facts, Cert.KernelIdeal.Gen.facts, Cert.ReferenceIdeal.Gen.facts, finite_facts,
  fun m ρ _ => Cert.Kernel.Gen.frame m ρ,
  fun m ρ _ => Cert.KernelIdeal.Gen.frame m ρ, fun m ρ _ => Cert.KernelIdeal.Gen.frame m ρ,
  reference_frame, fun m ρ _ => reference_frame m ρ trivial,
  IdealRules.named_const.statement Cert.KernelIdeal.κ "inv_P" .f32 0x3BA72F05#32 ((1 / 196 : ℝ) : EReal) rfl,
  same_loss⟩

end Cert.Proof

end
